-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S16x3969 : Shape := ⟨2, ![16, 3969]⟩
abbrev S1024x1024 : Shape := ⟨2, ![1024, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel

variable [Facts]

def fn {F : FTy → Type} [FloatOps F] (main_arg0 : FVec F S16x3969 .f32) (main_arg1 : IVec S1024x1024 32) : IVec S_ 1 :=
  let main_c : IVec S_ 32 := constantI S_ 32 0#32
  let main_v0 : IVec S1024x1024 32 := broadcastInDim S1024x1024 ![] bcast_S_S1024x1024 main_c
  let main_v1 : IVec S1024x1024 1 := cmpi .sge main_arg1 main_v0
  let main_c_0 : IVec S_ 32 := constantI S_ 32 3969#32
  let main_v2 : IVec S1024x1024 32 := broadcastInDim S1024x1024 ![] bcast_S_S1024x1024 main_c_0
  let main_v3 : IVec S1024x1024 1 := cmpi .slt main_arg1 main_v2
  let main_v4 : IVec S1024x1024 1 := andi main_v1 main_v3
  let main_c_1 : IVec S_ 1 := constantI S_ 1 1#1
  let main_v5 : IVec S_ 1 := (fun x v => Host.reduce IntOp.andi x v reducesTo_S1024x1024_S_d0_1 h_S_) main_v4 main_c_1
  main_v5
-- ==== Kernel.lean ====
abbrev S16x3969 : Shape := ⟨2, ![16, 3969]⟩
abbrev S1024x1024 : Shape := ⟨2, ![1024, 1024]⟩
abbrev S16x1024x1024 : Shape := ⟨3, ![16, 1024, 1024]⟩
abbrev S3x1x1024 : Shape := ⟨3, ![3, 1, 1024]⟩
abbrev S3x16x1024 : Shape := ⟨3, ![3, 16, 1024]⟩
abbrev S_ : Shape := ⟨0, ![]⟩
abbrev S1x1x1024 : Shape := ⟨3, ![1, 1, 1024]⟩
abbrev S1024 : Shape := ⟨1, ![1024]⟩
abbrev S1x1024 : Shape := ⟨2, ![1, 1024]⟩
abbrev S1x16x1024 : Shape := ⟨3, ![1, 16, 1024]⟩
abbrev S16x1024 : Shape := ⟨2, ![16, 1024]⟩
abbrev S16x1x1024 : Shape := ⟨3, ![16, 1, 1024]⟩
abbrev S16 : Shape := ⟨1, ![16]⟩
abbrev S1x1x16 : Shape := ⟨3, ![1, 1, 16]⟩

abbrev nBuf : Table → Nat
  | .hbm => 3
  | .local .scVector .vmem => 3
  | _ => 0

abbrev bufTy : (tb : Table) → Fin (nBuf tb) → BufTy
  | .hbm, ⟨0, _⟩ => ⟨S16x3969, .f32⟩
  | .hbm, ⟨1, _⟩ => ⟨S1024x1024, .i32⟩
  | .hbm, ⟨2, _⟩ => ⟨S16x1024x1024, .f32⟩
  | .local .scVector .vmem, ⟨0, _⟩ => ⟨S16x3969, .f32⟩
  | .local .scVector .vmem, ⟨1, _⟩ => ⟨S3x1x1024, .i32⟩
  | .local .scVector .vmem, ⟨2, _⟩ => ⟨S3x16x1024, .f32⟩
  | _, _ => ⟨S16x3969, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 7 → Bool
  | ⟨0, _⟩ => false
  | ⟨1, _⟩ => false
  | ⟨2, _⟩ => false
  | ⟨3, _⟩ => false
  | ⟨4, _⟩ => false
  | ⟨5, _⟩ => false
  | ⟨6, _⟩ => false
  | _ => false

abbrev sig : RefSig :=
  ofTables nBuf rfl bufTy 4 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_2 : BitVec 32 := 0#32
  ![v2.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1_i32 : BitVec 32 := 1#32
  let v11 : BitVec 32 := Scalar.addi v2 c1_i32
  let c0_i32_8 : BitVec 32 := 0#32
  ![v11.toNat, 0]
@[reducible] def k0_t1_loop : Scf.Loop 32 :=
  let c0_i32_12 : BitVec 32 := 0#32
  let c10_i32 : BitVec 32 := 10#32
  let v20 : BitVec 32 := Scalar.addi c0_i32_12 c10_i32
  let c1_i32_13 : BitVec 32 := 1#32
  ⟨c0_i32_12, v20, c1_i32_13⟩
def k0_off3 (i : grid0.Coords) (k0_t1 : Fin k0_t1_loop.trips) (c0_i32_111 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_12 : BitVec 32 := 0#32
  let c1_i32_13 : BitVec 32 := 1#32
  let arg14 : BitVec 32 := Scf.iv c0_i32_12 c1_i32_13 k0_t1
  let c3_i32_110 : BitVec 32 := 3#32
  let v110 : BitVec 32 := Scalar.muli arg14 c3_i32_110
  let v111 : BitVec 32 := Scalar.addi v2 v110
  let v112 : BitVec 32 := Scalar.addi v111 c0_i32_111
  let c0_i32_115 : BitVec 32 := 0#32
  ![v112.toNat, 0]
def k0_cond1 (k0_t1 : Fin k0_t1_loop.trips) : BitVec 1 :=
  let c0_i32_12 : BitVec 32 := 0#32
  let c1_i32_13 : BitVec 32 := 1#32
  let arg14 : BitVec 32 := Scf.iv c0_i32_12 c1_i32_13 k0_t1
  let c3_i32_118 : BitVec 32 := 3#32
  let v121 : BitVec 32 := Scalar.muli arg14 c3_i32_118
  let c0_i32_119 : BitVec 32 := 0#32
  let v122 : BitVec 32 := Scalar.addi v121 c0_i32_119
  let c2_i32_120 : BitVec 32 := 2#32
  let v123 : BitVec 32 := Scalar.addi v122 c2_i32_120
  let c32_i32_121 : BitVec 32 := 32#32
  let v124 : BitVec 1 := Scalar.cmpi .slt v123 c32_i32_121
  let v125 : BitVec 32 := Scalar.extui v124
  let c0_i32_122 : BitVec 32 := 0#32
  let v126 : BitVec 1 := Scalar.cmpi .ne v125 c0_i32_122
  v126

def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_12 : BitVec 32 := 0#32
  let c1_i32_13 : BitVec 32 := 1#32
  let arg14 : BitVec 32 := Scf.iv c0_i32_12 c1_i32_13 k0_t1
  let c3_i32_110 : BitVec 32 := 3#32
  let v110 : BitVec 32 := Scalar.muli arg14 c3_i32_110
  let v111 : BitVec 32 := Scalar.addi v2 v110
  let c0_i32_111 : BitVec 32 := 0#32
  let v112 : BitVec 32 := Scalar.addi v111 c0_i32_111
  let c2_i32_200 : BitVec 32 := 2#32
  let v203 : BitVec 32 := Scalar.addi v112 c2_i32_200
  let c0_i32_204 : BitVec 32 := 0#32
  ![v203.toNat, 0]
def k0_cond2 (k0_t1 : Fin k0_t1_loop.trips) : BitVec 1 :=
  let c0_i32_12 : BitVec 32 := 0#32
  let c1_i32_13 : BitVec 32 := 1#32
  let arg14 : BitVec 32 := Scf.iv c0_i32_12 c1_i32_13 k0_t1
  let c3_i32_123 : BitVec 32 := 3#32
  let v127 : BitVec 32 := Scalar.muli arg14 c3_i32_123
  let c0_i32_124 : BitVec 32 := 0#32
  let v128 : BitVec 32 := Scalar.addi v127 c0_i32_124
  let c3_i32_125 : BitVec 32 := 3#32
  let v129 : BitVec 1 := Scalar.cmpi .sge v128 c3_i32_125
  let v130 : BitVec 32 := Scalar.extui v129
  let c0_i32_126 : BitVec 32 := 0#32
  let v131 : BitVec 1 := Scalar.cmpi .ne v130 c0_i32_126
  v131

def k0_off5 (i : grid0.Coords) (k0_t1 : Fin k0_t1_loop.trips) : Fin 3 → Nat :=
  let c0_i32_204 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_12 : BitVec 32 := 0#32
  let c1_i32_13 : BitVec 32 := 1#32
  let arg14 : BitVec 32 := Scf.iv c0_i32_12 c1_i32_13 k0_t1
  let c3_i32_110 : BitVec 32 := 3#32
  let v110 : BitVec 32 := Scalar.muli arg14 c3_i32_110
  let v111 : BitVec 32 := Scalar.addi v2 v110
  let c0_i32_111 : BitVec 32 := 0#32
  let v112 : BitVec 32 := Scalar.addi v111 c0_i32_111
  let c3_i32_200 : BitVec 32 := 3#32
  let v203 : BitVec 32 := Scalar.subi v112 c3_i32_200
  let c0_i32_205 : BitVec 32 := 0#32
  ![0, v203.toNat, 0]
@[reducible] def k0_t2_loop : Scf.Loop 32 :=
  let c0_i32_127 : BitVec 32 := 0#32
  let c64_i32_128 : BitVec 32 := 64#32
  let v132 : BitVec 32 := Scalar.addi c0_i32_127 c64_i32_128
  let c1_i32_129 : BitVec 32 := 1#32
  ⟨c0_i32_127, v132, c1_i32_129⟩
def k0_off6 (k0_t2 : Fin k0_t2_loop.trips) : Fin 3 → Nat :=
  let c0_i32_202 : BitVec 32 := 0#32
  let v206 : Index := Scalar.indexCast c0_i32_202
  let c0_i32_203 : BitVec 32 := 0#32
  let v207 : Index := Scalar.indexCast c0_i32_203
  let c0_i32_201 : BitVec 32 := 0#32
  let c0_i32_127 : BitVec 32 := 0#32
  let c1_i32_129 : BitVec 32 := 1#32
  let arg15 : BitVec 32 := Scf.iv c0_i32_127 c1_i32_129 k0_t2
  let c1_i32_200 : BitVec 32 := 1#32
  let v203 : BitVec 32 := Scalar.muli arg15 c1_i32_200
  let v204 : BitVec 32 := Scalar.addi c0_i32_201 v203
  let c16_i32 : BitVec 32 := 16#32
  let v205 : BitVec 32 := Scalar.muli v204 c16_i32
  let v208 : Index := Scalar.indexCast v205
  ![0, 0, v208.toNat]

def k0_chk1 (v209 : IVec S16 32) (v210 : IVec S16 32) : Prop :=
  (∀ a x, ((![v210, v209] : Fin 2 → IVec S16 32) a x).toNat < S16x3969.size a)
theorem k0_idx1_inb : ∀ (v209 : IVec S16 32) (v210 : IVec S16 32) (k0_hw1 : k0_chk1 v209 v210), ∀ a x, ((![v210, v209] : Fin 2 → IVec S16 32) a x).toNat < S16x3969.size a := fun v209 v210 k0_hw1 => k0_hw1
def k0_off7 (k0_t2 : Fin k0_t2_loop.trips) : Fin 3 → Nat :=
  let c0_i32_206 : BitVec 32 := 0#32
  let v213 : Index := Scalar.indexCast c0_i32_206
  let c0_i32_207 : BitVec 32 := 0#32
  let v214 : Index := Scalar.indexCast c0_i32_207
  let c0_i32_201 : BitVec 32 := 0#32
  let c0_i32_127 : BitVec 32 := 0#32
  let c1_i32_129 : BitVec 32 := 1#32
  let arg15 : BitVec 32 := Scf.iv c0_i32_127 c1_i32_129 k0_t2
  let c1_i32_200 : BitVec 32 := 1#32
  let v203 : BitVec 32 := Scalar.muli arg15 c1_i32_200
  let v204 : BitVec 32 := Scalar.addi c0_i32_201 v203
  let c16_i32_205 : BitVec 32 := 16#32
  let v212 : BitVec 32 := Scalar.muli v204 c16_i32_205
  let v215 : Index := Scalar.indexCast v212
  ![0, 0, v215.toNat]

def k0_chk2 (v209 : IVec S16 32) (v217 : IVec S16 32) : Prop :=
  (∀ a x, ((![v217, v209] : Fin 2 → IVec S16 32) a x).toNat < S16x3969.size a)
theorem k0_idx2_inb : ∀ (v209 : IVec S16 32) (v217 : IVec S16 32) (k0_hw2 : k0_chk2 v209 v217), ∀ a x, ((![v217, v209] : Fin 2 → IVec S16 32) a x).toNat < S16x3969.size a := fun v209 v217 k0_hw2 => k0_hw2
def k0_off8 (k0_t2 : Fin k0_t2_loop.trips) : Fin 3 → Nat :=
  let c0_i32_210 : BitVec 32 := 0#32
  let v220 : Index := Scalar.indexCast c0_i32_210
  let c1_i32_211 : BitVec 32 := 1#32
  let v221 : Index := Scalar.indexCast c1_i32_211
  let c0_i32_201 : BitVec 32 := 0#32
  let c0_i32_127 : BitVec 32 := 0#32
  let c1_i32_129 : BitVec 32 := 1#32
  let arg15 : BitVec 32 := Scf.iv c0_i32_127 c1_i32_129 k0_t2
  let c1_i32_200 : BitVec 32 := 1#32
  let v203 : BitVec 32 := Scalar.muli arg15 c1_i32_200
  let v204 : BitVec 32 := Scalar.addi c0_i32_201 v203
  let c16_i32_209 : BitVec 32 := 16#32
  let v219 : BitVec 32 := Scalar.muli v204 c16_i32_209
  let v222 : Index := Scalar.indexCast v219
  ![0, 1, v222.toNat]

def k0_chk3 (v209 : IVec S16 32) (v224 : IVec S16 32) : Prop :=
  (∀ a x, ((![v224, v209] : Fin 2 → IVec S16 32) a x).toNat < S16x3969.size a)
theorem k0_idx3_inb : ∀ (v209 : IVec S16 32) (v224 : IVec S16 32) (k0_hw3 : k0_chk3 v209 v224), ∀ a x, ((![v224, v209] : Fin 2 → IVec S16 32) a x).toNat < S16x3969.size a := fun v209 v224 k0_hw3 => k0_hw3
def k0_off9 (k0_t2 : Fin k0_t2_loop.trips) : Fin 3 → Nat :=
  let c0_i32_214 : BitVec 32 := 0#32
  let v227 : Index := Scalar.indexCast c0_i32_214
  let c2_i32_215 : BitVec 32 := 2#32
  let v228 : Index := Scalar.indexCast c2_i32_215
  let c0_i32_201 : BitVec 32 := 0#32
  let c0_i32_127 : BitVec 32 := 0#32
  let c1_i32_129 : BitVec 32 := 1#32
  let arg15 : BitVec 32 := Scf.iv c0_i32_127 c1_i32_129 k0_t2
  let c1_i32_200 : BitVec 32 := 1#32
  let v203 : BitVec 32 := Scalar.muli arg15 c1_i32_200
  let v204 : BitVec 32 := Scalar.addi c0_i32_201 v203
  let c16_i32_213 : BitVec 32 := 16#32
  let v226 : BitVec 32 := Scalar.muli v204 c16_i32_213
  let v229 : Index := Scalar.indexCast v226
  ![0, 2, v229.toNat]

def k0_chk4 (v209 : IVec S16 32) (v231 : IVec S16 32) : Prop :=
  (∀ a x, ((![v231, v209] : Fin 2 → IVec S16 32) a x).toNat < S16x3969.size a)
theorem k0_idx4_inb : ∀ (v209 : IVec S16 32) (v231 : IVec S16 32) (k0_hw4 : k0_chk4 v209 v231), ∀ a x, ((![v231, v209] : Fin 2 → IVec S16 32) a x).toNat < S16x3969.size a := fun v209 v231 k0_hw4 => k0_hw4
def k0_off10 (k0_t2 : Fin k0_t2_loop.trips) : Fin 3 → Nat :=
  let c0_i32_218 : BitVec 32 := 0#32
  let v234 : Index := Scalar.indexCast c0_i32_218
  let c3_i32_219 : BitVec 32 := 3#32
  let v235 : Index := Scalar.indexCast c3_i32_219
  let c0_i32_201 : BitVec 32 := 0#32
  let c0_i32_127 : BitVec 32 := 0#32
  let c1_i32_129 : BitVec 32 := 1#32
  let arg15 : BitVec 32 := Scf.iv c0_i32_127 c1_i32_129 k0_t2
  let c1_i32_200 : BitVec 32 := 1#32
  let v203 : BitVec 32 := Scalar.muli arg15 c1_i32_200
  let v204 : BitVec 32 := Scalar.addi c0_i32_201 v203
  let c16_i32_217 : BitVec 32 := 16#32
  let v233 : BitVec 32 := Scalar.muli v204 c16_i32_217
  let v236 : Index := Scalar.indexCast v233
  ![0, 3, v236.toNat]

def k0_chk5 (v209 : IVec S16 32) (v238 : IVec S16 32) : Prop :=
  (∀ a x, ((![v238, v209] : Fin 2 → IVec S16 32) a x).toNat < S16x3969.size a)
theorem k0_idx5_inb : ∀ (v209 : IVec S16 32) (v238 : IVec S16 32) (k0_hw5 : k0_chk5 v209 v238), ∀ a x, ((![v238, v209] : Fin 2 → IVec S16 32) a x).toNat < S16x3969.size a := fun v209 v238 k0_hw5 => k0_hw5
def k0_off11 (k0_t2 : Fin k0_t2_loop.trips) : Fin 3 → Nat :=
  let c0_i32_221 : BitVec 32 := 0#32
  let v241 : Index := Scalar.indexCast c0_i32_221
  let c4_i32_222 : BitVec 32 := 4#32
  let v242 : Index := Scalar.indexCast c4_i32_222
  let c0_i32_201 : BitVec 32 := 0#32
  let c0_i32_127 : BitVec 32 := 0#32
  let c1_i32_129 : BitVec 32 := 1#32
  let arg15 : BitVec 32 := Scf.iv c0_i32_127 c1_i32_129 k0_t2
  let c1_i32_200 : BitVec 32 := 1#32
  let v203 : BitVec 32 := Scalar.muli arg15 c1_i32_200
  let v204 : BitVec 32 := Scalar.addi c0_i32_201 v203
  let c16_i32_220 : BitVec 32 := 16#32
  let v240 : BitVec 32 := Scalar.muli v204 c16_i32_220
  let v243 : Index := Scalar.indexCast v240
  ![0, 4, v243.toNat]

def k0_chk6 (v209 : IVec S16 32) (v245 : IVec S16 32) : Prop :=
  (∀ a x, ((![v245, v209] : Fin 2 → IVec S16 32) a x).toNat < S16x3969.size a)
theorem k0_idx6_inb : ∀ (v209 : IVec S16 32) (v245 : IVec S16 32) (k0_hw6 : k0_chk6 v209 v245), ∀ a x, ((![v245, v209] : Fin 2 → IVec S16 32) a x).toNat < S16x3969.size a := fun v209 v245 k0_hw6 => k0_hw6
def k0_off12 (k0_t2 : Fin k0_t2_loop.trips) : Fin 3 → Nat :=
  let c0_i32_224 : BitVec 32 := 0#32
  let v248 : Index := Scalar.indexCast c0_i32_224
  let c5_i32_225 : BitVec 32 := 5#32
  let v249 : Index := Scalar.indexCast c5_i32_225
  let c0_i32_201 : BitVec 32 := 0#32
  let c0_i32_127 : BitVec 32 := 0#32
  let c1_i32_129 : BitVec 32 := 1#32
  let arg15 : BitVec 32 := Scf.iv c0_i32_127 c1_i32_129 k0_t2
  let c1_i32_200 : BitVec 32 := 1#32
  let v203 : BitVec 32 := Scalar.muli arg15 c1_i32_200
  let v204 : BitVec 32 := Scalar.addi c0_i32_201 v203
  let c16_i32_223 : BitVec 32 := 16#32
  let v247 : BitVec 32 := Scalar.muli v204 c16_i32_223
  let v250 : Index := Scalar.indexCast v247
  ![0, 5, v250.toNat]

def k0_chk7 (v209 : IVec S16 32) (v252 : IVec S16 32) : Prop :=
  (∀ a x, ((![v252, v209] : Fin 2 → IVec S16 32) a x).toNat < S16x3969.size a)
theorem k0_idx7_inb : ∀ (v209 : IVec S16 32) (v252 : IVec S16 32) (k0_hw7 : k0_chk7 v209 v252), ∀ a x, ((![v252, v209] : Fin 2 → IVec S16 32) a x).toNat < S16x3969.size a := fun v209 v252 k0_hw7 => k0_hw7
def k0_off13 (k0_t2 : Fin k0_t2_loop.trips) : Fin 3 → Nat :=
  let c0_i32_227 : BitVec 32 := 0#32
  let v255 : Index := Scalar.indexCast c0_i32_227
  let c6_i32_228 : BitVec 32 := 6#32
  let v256 : Index := Scalar.indexCast c6_i32_228
  let c0_i32_201 : BitVec 32 := 0#32
  let c0_i32_127 : BitVec 32 := 0#32
  let c1_i32_129 : BitVec 32 := 1#32
  let arg15 : BitVec 32 := Scf.iv c0_i32_127 c1_i32_129 k0_t2
  let c1_i32_200 : BitVec 32 := 1#32
  let v203 : BitVec 32 := Scalar.muli arg15 c1_i32_200
  let v204 : BitVec 32 := Scalar.addi c0_i32_201 v203
  let c16_i32_226 : BitVec 32 := 16#32
  let v254 : BitVec 32 := Scalar.muli v204 c16_i32_226
  let v257 : Index := Scalar.indexCast v254
  ![0, 6, v257.toNat]

def k0_chk8 (v209 : IVec S16 32) (v259 : IVec S16 32) : Prop :=
  (∀ a x, ((![v259, v209] : Fin 2 → IVec S16 32) a x).toNat < S16x3969.size a)
theorem k0_idx8_inb : ∀ (v209 : IVec S16 32) (v259 : IVec S16 32) (k0_hw8 : k0_chk8 v209 v259), ∀ a x, ((![v259, v209] : Fin 2 → IVec S16 32) a x).toNat < S16x3969.size a := fun v209 v259 k0_hw8 => k0_hw8
def k0_off14 (k0_t2 : Fin k0_t2_loop.trips) : Fin 3 → Nat :=
  let c0_i32_230 : BitVec 32 := 0#32
  let v262 : Index := Scalar.indexCast c0_i32_230
  let c7_i32_231 : BitVec 32 := 7#32
  let v263 : Index := Scalar.indexCast c7_i32_231
  let c0_i32_201 : BitVec 32 := 0#32
  let c0_i32_127 : BitVec 32 := 0#32
  let c1_i32_129 : BitVec 32 := 1#32
  let arg15 : BitVec 32 := Scf.iv c0_i32_127 c1_i32_129 k0_t2
  let c1_i32_200 : BitVec 32 := 1#32
  let v203 : BitVec 32 := Scalar.muli arg15 c1_i32_200
  let v204 : BitVec 32 := Scalar.addi c0_i32_201 v203
  let c16_i32_229 : BitVec 32 := 16#32
  let v261 : BitVec 32 := Scalar.muli v204 c16_i32_229
  let v264 : Index := Scalar.indexCast v261
  ![0, 7, v264.toNat]

def k0_chk9 (v209 : IVec S16 32) (v266 : IVec S16 32) : Prop :=
  (∀ a x, ((![v266, v209] : Fin 2 → IVec S16 32) a x).toNat < S16x3969.size a)
theorem k0_idx9_inb : ∀ (v209 : IVec S16 32) (v266 : IVec S16 32) (k0_hw9 : k0_chk9 v209 v266), ∀ a x, ((![v266, v209] : Fin 2 → IVec S16 32) a x).toNat < S16x3969.size a := fun v209 v266 k0_hw9 => k0_hw9
def k0_off15 (k0_t2 : Fin k0_t2_loop.trips) : Fin 3 → Nat :=
  let c0_i32_233 : BitVec 32 := 0#32
  let v269 : Index := Scalar.indexCast c0_i32_233
  let c8_i32_234 : BitVec 32 := 8#32
  let v270 : Index := Scalar.indexCast c8_i32_234
  let c0_i32_201 : BitVec 32 := 0#32
  let c0_i32_127 : BitVec 32 := 0#32
  let c1_i32_129 : BitVec 32 := 1#32
  let arg15 : BitVec 32 := Scf.iv c0_i32_127 c1_i32_129 k0_t2
  let c1_i32_200 : BitVec 32 := 1#32
  let v203 : BitVec 32 := Scalar.muli arg15 c1_i32_200
  let v204 : BitVec 32 := Scalar.addi c0_i32_201 v203
  let c16_i32_232 : BitVec 32 := 16#32
  let v268 : BitVec 32 := Scalar.muli v204 c16_i32_232
  let v271 : Index := Scalar.indexCast v268
  ![0, 8, v271.toNat]

def k0_chk10 (v209 : IVec S16 32) (v273 : IVec S16 32) : Prop :=
  (∀ a x, ((![v273, v209] : Fin 2 → IVec S16 32) a x).toNat < S16x3969.size a)
theorem k0_idx10_inb : ∀ (v209 : IVec S16 32) (v273 : IVec S16 32) (k0_hw10 : k0_chk10 v209 v273), ∀ a x, ((![v273, v209] : Fin 2 → IVec S16 32) a x).toNat < S16x3969.size a := fun v209 v273 k0_hw10 => k0_hw10
def k0_off16 (k0_t2 : Fin k0_t2_loop.trips) : Fin 3 → Nat :=
  let c0_i32_236 : BitVec 32 := 0#32
  let v276 : Index := Scalar.indexCast c0_i32_236
  let c9_i32_237 : BitVec 32 := 9#32
  let v277 : Index := Scalar.indexCast c9_i32_237
  let c0_i32_201 : BitVec 32 := 0#32
  let c0_i32_127 : BitVec 32 := 0#32
  let c1_i32_129 : BitVec 32 := 1#32
  let arg15 : BitVec 32 := Scf.iv c0_i32_127 c1_i32_129 k0_t2
  let c1_i32_200 : BitVec 32 := 1#32
  let v203 : BitVec 32 := Scalar.muli arg15 c1_i32_200
  let v204 : BitVec 32 := Scalar.addi c0_i32_201 v203
  let c16_i32_235 : BitVec 32 := 16#32
  let v275 : BitVec 32 := Scalar.muli v204 c16_i32_235
  let v278 : Index := Scalar.indexCast v275
  ![0, 9, v278.toNat]

def k0_chk11 (v209 : IVec S16 32) (v280 : IVec S16 32) : Prop :=
  (∀ a x, ((![v280, v209] : Fin 2 → IVec S16 32) a x).toNat < S16x3969.size a)
theorem k0_idx11_inb : ∀ (v209 : IVec S16 32) (v280 : IVec S16 32) (k0_hw11 : k0_chk11 v209 v280), ∀ a x, ((![v280, v209] : Fin 2 → IVec S16 32) a x).toNat < S16x3969.size a := fun v209 v280 k0_hw11 => k0_hw11
def k0_off17 (k0_t2 : Fin k0_t2_loop.trips) : Fin 3 → Nat :=
  let c0_i32_240 : BitVec 32 := 0#32
  let v283 : Index := Scalar.indexCast c0_i32_240
  let c10_i32_241 : BitVec 32 := 10#32
  let v284 : Index := Scalar.indexCast c10_i32_241
  let c0_i32_201 : BitVec 32 := 0#32
  let c0_i32_127 : BitVec 32 := 0#32
  let c1_i32_129 : BitVec 32 := 1#32
  let arg15 : BitVec 32 := Scf.iv c0_i32_127 c1_i32_129 k0_t2
  let c1_i32_200 : BitVec 32 := 1#32
  let v203 : BitVec 32 := Scalar.muli arg15 c1_i32_200
  let v204 : BitVec 32 := Scalar.addi c0_i32_201 v203
  let c16_i32_239 : BitVec 32 := 16#32
  let v282 : BitVec 32 := Scalar.muli v204 c16_i32_239
  let v285 : Index := Scalar.indexCast v282
  ![0, 10, v285.toNat]

def k0_chk12 (v209 : IVec S16 32) (v287 : IVec S16 32) : Prop :=
  (∀ a x, ((![v287, v209] : Fin 2 → IVec S16 32) a x).toNat < S16x3969.size a)
theorem k0_idx12_inb : ∀ (v209 : IVec S16 32) (v287 : IVec S16 32) (k0_hw12 : k0_chk12 v209 v287), ∀ a x, ((![v287, v209] : Fin 2 → IVec S16 32) a x).toNat < S16x3969.size a := fun v209 v287 k0_hw12 => k0_hw12
def k0_off18 (k0_t2 : Fin k0_t2_loop.trips) : Fin 3 → Nat :=
  let c0_i32_243 : BitVec 32 := 0#32
  let v290 : Index := Scalar.indexCast c0_i32_243
  let c11_i32_244 : BitVec 32 := 11#32
  let v291 : Index := Scalar.indexCast c11_i32_244
  let c0_i32_201 : BitVec 32 := 0#32
  let c0_i32_127 : BitVec 32 := 0#32
  let c1_i32_129 : BitVec 32 := 1#32
  let arg15 : BitVec 32 := Scf.iv c0_i32_127 c1_i32_129 k0_t2
  let c1_i32_200 : BitVec 32 := 1#32
  let v203 : BitVec 32 := Scalar.muli arg15 c1_i32_200
  let v204 : BitVec 32 := Scalar.addi c0_i32_201 v203
  let c16_i32_242 : BitVec 32 := 16#32
  let v289 : BitVec 32 := Scalar.muli v204 c16_i32_242
  let v292 : Index := Scalar.indexCast v289
  ![0, 11, v292.toNat]

def k0_chk13 (v209 : IVec S16 32) (v294 : IVec S16 32) : Prop :=
  (∀ a x, ((![v294, v209] : Fin 2 → IVec S16 32) a x).toNat < S16x3969.size a)
theorem k0_idx13_inb : ∀ (v209 : IVec S16 32) (v294 : IVec S16 32) (k0_hw13 : k0_chk13 v209 v294), ∀ a x, ((![v294, v209] : Fin 2 → IVec S16 32) a x).toNat < S16x3969.size a := fun v209 v294 k0_hw13 => k0_hw13
def k0_off19 (k0_t2 : Fin k0_t2_loop.trips) : Fin 3 → Nat :=
  let c0_i32_246 : BitVec 32 := 0#32
  let v297 : Index := Scalar.indexCast c0_i32_246
  let c12_i32_247 : BitVec 32 := 12#32
  let v298 : Index := Scalar.indexCast c12_i32_247
  let c0_i32_201 : BitVec 32 := 0#32
  let c0_i32_127 : BitVec 32 := 0#32
  let c1_i32_129 : BitVec 32 := 1#32
  let arg15 : BitVec 32 := Scf.iv c0_i32_127 c1_i32_129 k0_t2
  let c1_i32_200 : BitVec 32 := 1#32
  let v203 : BitVec 32 := Scalar.muli arg15 c1_i32_200
  let v204 : BitVec 32 := Scalar.addi c0_i32_201 v203
  let c16_i32_245 : BitVec 32 := 16#32
  let v296 : BitVec 32 := Scalar.muli v204 c16_i32_245
  let v299 : Index := Scalar.indexCast v296
  ![0, 12, v299.toNat]

def k0_chk14 (v209 : IVec S16 32) (v301 : IVec S16 32) : Prop :=
  (∀ a x, ((![v301, v209] : Fin 2 → IVec S16 32) a x).toNat < S16x3969.size a)
theorem k0_idx14_inb : ∀ (v209 : IVec S16 32) (v301 : IVec S16 32) (k0_hw14 : k0_chk14 v209 v301), ∀ a x, ((![v301, v209] : Fin 2 → IVec S16 32) a x).toNat < S16x3969.size a := fun v209 v301 k0_hw14 => k0_hw14
def k0_off20 (k0_t2 : Fin k0_t2_loop.trips) : Fin 3 → Nat :=
  let c0_i32_249 : BitVec 32 := 0#32
  let v304 : Index := Scalar.indexCast c0_i32_249
  let c13_i32_250 : BitVec 32 := 13#32
  let v305 : Index := Scalar.indexCast c13_i32_250
  let c0_i32_201 : BitVec 32 := 0#32
  let c0_i32_127 : BitVec 32 := 0#32
  let c1_i32_129 : BitVec 32 := 1#32
  let arg15 : BitVec 32 := Scf.iv c0_i32_127 c1_i32_129 k0_t2
  let c1_i32_200 : BitVec 32 := 1#32
  let v203 : BitVec 32 := Scalar.muli arg15 c1_i32_200
  let v204 : BitVec 32 := Scalar.addi c0_i32_201 v203
  let c16_i32_248 : BitVec 32 := 16#32
  let v303 : BitVec 32 := Scalar.muli v204 c16_i32_248
  let v306 : Index := Scalar.indexCast v303
  ![0, 13, v306.toNat]

def k0_chk15 (v209 : IVec S16 32) (v308 : IVec S16 32) : Prop :=
  (∀ a x, ((![v308, v209] : Fin 2 → IVec S16 32) a x).toNat < S16x3969.size a)
theorem k0_idx15_inb : ∀ (v209 : IVec S16 32) (v308 : IVec S16 32) (k0_hw15 : k0_chk15 v209 v308), ∀ a x, ((![v308, v209] : Fin 2 → IVec S16 32) a x).toNat < S16x3969.size a := fun v209 v308 k0_hw15 => k0_hw15
def k0_off21 (k0_t2 : Fin k0_t2_loop.trips) : Fin 3 → Nat :=
  let c0_i32_252 : BitVec 32 := 0#32
  let v311 : Index := Scalar.indexCast c0_i32_252
  let c14_i32_253 : BitVec 32 := 14#32
  let v312 : Index := Scalar.indexCast c14_i32_253
  let c0_i32_201 : BitVec 32 := 0#32
  let c0_i32_127 : BitVec 32 := 0#32
  let c1_i32_129 : BitVec 32 := 1#32
  let arg15 : BitVec 32 := Scf.iv c0_i32_127 c1_i32_129 k0_t2
  let c1_i32_200 : BitVec 32 := 1#32
  let v203 : BitVec 32 := Scalar.muli arg15 c1_i32_200
  let v204 : BitVec 32 := Scalar.addi c0_i32_201 v203
  let c16_i32_251 : BitVec 32 := 16#32
  let v310 : BitVec 32 := Scalar.muli v204 c16_i32_251
  let v313 : Index := Scalar.indexCast v310
  ![0, 14, v313.toNat]

def k0_chk16 (v209 : IVec S16 32) (v315 : IVec S16 32) : Prop :=
  (∀ a x, ((![v315, v209] : Fin 2 → IVec S16 32) a x).toNat < S16x3969.size a)
theorem k0_idx16_inb : ∀ (v209 : IVec S16 32) (v315 : IVec S16 32) (k0_hw16 : k0_chk16 v209 v315), ∀ a x, ((![v315, v209] : Fin 2 → IVec S16 32) a x).toNat < S16x3969.size a := fun v209 v315 k0_hw16 => k0_hw16
def k0_off22 (k0_t2 : Fin k0_t2_loop.trips) : Fin 3 → Nat :=
  let c0_i32_255 : BitVec 32 := 0#32
  let v318 : Index := Scalar.indexCast c0_i32_255
  let c15_i32_256 : BitVec 32 := 15#32
  let v319 : Index := Scalar.indexCast c15_i32_256
  let c0_i32_201 : BitVec 32 := 0#32
  let c0_i32_127 : BitVec 32 := 0#32
  let c1_i32_129 : BitVec 32 := 1#32
  let arg15 : BitVec 32 := Scf.iv c0_i32_127 c1_i32_129 k0_t2
  let c1_i32_200 : BitVec 32 := 1#32
  let v203 : BitVec 32 := Scalar.muli arg15 c1_i32_200
  let v204 : BitVec 32 := Scalar.addi c0_i32_201 v203
  let c16_i32_254 : BitVec 32 := 16#32
  let v317 : BitVec 32 := Scalar.muli v204 c16_i32_254
  let v320 : Index := Scalar.indexCast v317
  ![0, 15, v320.toNat]
def k0_off23 (i : grid0.Coords) (k0_t1 : Fin k0_t1_loop.trips) (c0_i32_111 : BitVec 32) : Fin 3 → Nat :=
  let c0_i32_134 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_12 : BitVec 32 := 0#32
  let c1_i32_13 : BitVec 32 := 1#32
  let arg14 : BitVec 32 := Scf.iv c0_i32_12 c1_i32_13 k0_t1
  let c3_i32_110 : BitVec 32 := 3#32
  let v110 : BitVec 32 := Scalar.muli arg14 c3_i32_110
  let v111 : BitVec 32 := Scalar.addi v2 v110
  let v112 : BitVec 32 := Scalar.addi v111 c0_i32_111
  let c0_i32_135 : BitVec 32 := 0#32
  ![0, v112.toNat, 0]
def k0_cond3 (k0_t1 : Fin k0_t1_loop.trips) : BitVec 1 :=
  let c0_i32_12 : BitVec 32 := 0#32
  let c1_i32_13 : BitVec 32 := 1#32
  let arg14 : BitVec 32 := Scf.iv c0_i32_12 c1_i32_13 k0_t1
  let c3_i32_148 : BitVec 32 := 3#32
  let v152 : BitVec 32 := Scalar.muli arg14 c3_i32_148
  let c1_i32_149 : BitVec 32 := 1#32
  let v153 : BitVec 32 := Scalar.addi v152 c1_i32_149
  let c2_i32_150 : BitVec 32 := 2#32
  let v154 : BitVec 32 := Scalar.addi v153 c2_i32_150
  let c32_i32_151 : BitVec 32 := 32#32
  let v155 : BitVec 1 := Scalar.cmpi .slt v154 c32_i32_151
  let v156 : BitVec 32 := Scalar.extui v155
  let c0_i32_152 : BitVec 32 := 0#32
  let v157 : BitVec 1 := Scalar.cmpi .ne v156 c0_i32_152
  v157

def k0_off24 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_12 : BitVec 32 := 0#32
  let c1_i32_13 : BitVec 32 := 1#32
  let arg14 : BitVec 32 := Scf.iv c0_i32_12 c1_i32_13 k0_t1
  let c3_i32_140 : BitVec 32 := 3#32
  let v141 : BitVec 32 := Scalar.muli arg14 c3_i32_140
  let v142 : BitVec 32 := Scalar.addi v2 v141
  let c1_i32_141 : BitVec 32 := 1#32
  let v143 : BitVec 32 := Scalar.addi v142 c1_i32_141
  let c2_i32_200 : BitVec 32 := 2#32
  let v203 : BitVec 32 := Scalar.addi v143 c2_i32_200
  let c0_i32_204 : BitVec 32 := 0#32
  ![v203.toNat, 0]
def k0_cond4 (k0_t1 : Fin k0_t1_loop.trips) : BitVec 1 :=
  let c0_i32_12 : BitVec 32 := 0#32
  let c1_i32_13 : BitVec 32 := 1#32
  let arg14 : BitVec 32 := Scf.iv c0_i32_12 c1_i32_13 k0_t1
  let c3_i32_153 : BitVec 32 := 3#32
  let v158 : BitVec 32 := Scalar.muli arg14 c3_i32_153
  let c1_i32_154 : BitVec 32 := 1#32
  let v159 : BitVec 32 := Scalar.addi v158 c1_i32_154
  let c3_i32_155 : BitVec 32 := 3#32
  let v160 : BitVec 1 := Scalar.cmpi .sge v159 c3_i32_155
  let v161 : BitVec 32 := Scalar.extui v160
  let c0_i32_156 : BitVec 32 := 0#32
  let v162 : BitVec 1 := Scalar.cmpi .ne v161 c0_i32_156
  v162

def k0_off25 (i : grid0.Coords) (k0_t1 : Fin k0_t1_loop.trips) : Fin 3 → Nat :=
  let c0_i32_204 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_12 : BitVec 32 := 0#32
  let c1_i32_13 : BitVec 32 := 1#32
  let arg14 : BitVec 32 := Scf.iv c0_i32_12 c1_i32_13 k0_t1
  let c3_i32_140 : BitVec 32 := 3#32
  let v141 : BitVec 32 := Scalar.muli arg14 c3_i32_140
  let v142 : BitVec 32 := Scalar.addi v2 v141
  let c1_i32_141 : BitVec 32 := 1#32
  let v143 : BitVec 32 := Scalar.addi v142 c1_i32_141
  let c3_i32_200 : BitVec 32 := 3#32
  let v203 : BitVec 32 := Scalar.subi v143 c3_i32_200
  let c0_i32_205 : BitVec 32 := 0#32
  ![0, v203.toNat, 0]
@[reducible] def k0_t3_loop : Scf.Loop 32 :=
  let c0_i32_157 : BitVec 32 := 0#32
  let c64_i32_158 : BitVec 32 := 64#32
  let v163 : BitVec 32 := Scalar.addi c0_i32_157 c64_i32_158
  let c1_i32_159 : BitVec 32 := 1#32
  ⟨c0_i32_157, v163, c1_i32_159⟩
def k0_off26 (k0_t3 : Fin k0_t3_loop.trips) : Fin 3 → Nat :=
  let c1_i32_202 : BitVec 32 := 1#32
  let v206 : Index := Scalar.indexCast c1_i32_202
  let c0_i32_203 : BitVec 32 := 0#32
  let v207 : Index := Scalar.indexCast c0_i32_203
  let c0_i32_201 : BitVec 32 := 0#32
  let c0_i32_157 : BitVec 32 := 0#32
  let c1_i32_159 : BitVec 32 := 1#32
  let arg15 : BitVec 32 := Scf.iv c0_i32_157 c1_i32_159 k0_t3
  let c1_i32_200 : BitVec 32 := 1#32
  let v203 : BitVec 32 := Scalar.muli arg15 c1_i32_200
  let v204 : BitVec 32 := Scalar.addi c0_i32_201 v203
  let c16_i32 : BitVec 32 := 16#32
  let v205 : BitVec 32 := Scalar.muli v204 c16_i32
  let v208 : Index := Scalar.indexCast v205
  ![1, 0, v208.toNat]

def k0_chk17 (v209 : IVec S16 32) (v210 : IVec S16 32) : Prop :=
  (∀ a x, ((![v210, v209] : Fin 2 → IVec S16 32) a x).toNat < S16x3969.size a)
theorem k0_idx17_inb : ∀ (v209 : IVec S16 32) (v210 : IVec S16 32) (k0_hw17 : k0_chk17 v209 v210), ∀ a x, ((![v210, v209] : Fin 2 → IVec S16 32) a x).toNat < S16x3969.size a := fun v209 v210 k0_hw17 => k0_hw17
def k0_off27 (k0_t3 : Fin k0_t3_loop.trips) : Fin 3 → Nat :=
  let c1_i32_206 : BitVec 32 := 1#32
  let v213 : Index := Scalar.indexCast c1_i32_206
  let c0_i32_207 : BitVec 32 := 0#32
  let v214 : Index := Scalar.indexCast c0_i32_207
  let c0_i32_201 : BitVec 32 := 0#32
  let c0_i32_157 : BitVec 32 := 0#32
  let c1_i32_159 : BitVec 32 := 1#32
  let arg15 : BitVec 32 := Scf.iv c0_i32_157 c1_i32_159 k0_t3
  let c1_i32_200 : BitVec 32 := 1#32
  let v203 : BitVec 32 := Scalar.muli arg15 c1_i32_200
  let v204 : BitVec 32 := Scalar.addi c0_i32_201 v203
  let c16_i32_205 : BitVec 32 := 16#32
  let v212 : BitVec 32 := Scalar.muli v204 c16_i32_205
  let v215 : Index := Scalar.indexCast v212
  ![1, 0, v215.toNat]

def k0_chk18 (v209 : IVec S16 32) (v217 : IVec S16 32) : Prop :=
  (∀ a x, ((![v217, v209] : Fin 2 → IVec S16 32) a x).toNat < S16x3969.size a)
theorem k0_idx18_inb : ∀ (v209 : IVec S16 32) (v217 : IVec S16 32) (k0_hw18 : k0_chk18 v209 v217), ∀ a x, ((![v217, v209] : Fin 2 → IVec S16 32) a x).toNat < S16x3969.size a := fun v209 v217 k0_hw18 => k0_hw18
def k0_off28 (k0_t3 : Fin k0_t3_loop.trips) : Fin 3 → Nat :=
  let c1_i32_210 : BitVec 32 := 1#32
  let v220 : Index := Scalar.indexCast c1_i32_210
  let c1_i32_211 : BitVec 32 := 1#32
  let v221 : Index := Scalar.indexCast c1_i32_211
  let c0_i32_201 : BitVec 32 := 0#32
  let c0_i32_157 : BitVec 32 := 0#32
  let c1_i32_159 : BitVec 32 := 1#32
  let arg15 : BitVec 32 := Scf.iv c0_i32_157 c1_i32_159 k0_t3
  let c1_i32_200 : BitVec 32 := 1#32
  let v203 : BitVec 32 := Scalar.muli arg15 c1_i32_200
  let v204 : BitVec 32 := Scalar.addi c0_i32_201 v203
  let c16_i32_209 : BitVec 32 := 16#32
  let v219 : BitVec 32 := Scalar.muli v204 c16_i32_209
  let v222 : Index := Scalar.indexCast v219
  ![1, 1, v222.toNat]

def k0_chk19 (v209 : IVec S16 32) (v224 : IVec S16 32) : Prop :=
  (∀ a x, ((![v224, v209] : Fin 2 → IVec S16 32) a x).toNat < S16x3969.size a)
theorem k0_idx19_inb : ∀ (v209 : IVec S16 32) (v224 : IVec S16 32) (k0_hw19 : k0_chk19 v209 v224), ∀ a x, ((![v224, v209] : Fin 2 → IVec S16 32) a x).toNat < S16x3969.size a := fun v209 v224 k0_hw19 => k0_hw19
def k0_off29 (k0_t3 : Fin k0_t3_loop.trips) : Fin 3 → Nat :=
  let c1_i32_214 : BitVec 32 := 1#32
  let v227 : Index := Scalar.indexCast c1_i32_214
  let c2_i32_215 : BitVec 32 := 2#32
  let v228 : Index := Scalar.indexCast c2_i32_215
  let c0_i32_201 : BitVec 32 := 0#32
  let c0_i32_157 : BitVec 32 := 0#32
  let c1_i32_159 : BitVec 32 := 1#32
  let arg15 : BitVec 32 := Scf.iv c0_i32_157 c1_i32_159 k0_t3
  let c1_i32_200 : BitVec 32 := 1#32
  let v203 : BitVec 32 := Scalar.muli arg15 c1_i32_200
  let v204 : BitVec 32 := Scalar.addi c0_i32_201 v203
  let c16_i32_213 : BitVec 32 := 16#32
  let v226 : BitVec 32 := Scalar.muli v204 c16_i32_213
  let v229 : Index := Scalar.indexCast v226
  ![1, 2, v229.toNat]

def k0_chk20 (v209 : IVec S16 32) (v231 : IVec S16 32) : Prop :=
  (∀ a x, ((![v231, v209] : Fin 2 → IVec S16 32) a x).toNat < S16x3969.size a)
theorem k0_idx20_inb : ∀ (v209 : IVec S16 32) (v231 : IVec S16 32) (k0_hw20 : k0_chk20 v209 v231), ∀ a x, ((![v231, v209] : Fin 2 → IVec S16 32) a x).toNat < S16x3969.size a := fun v209 v231 k0_hw20 => k0_hw20
def k0_off30 (k0_t3 : Fin k0_t3_loop.trips) : Fin 3 → Nat :=
  let c1_i32_218 : BitVec 32 := 1#32
  let v234 : Index := Scalar.indexCast c1_i32_218
  let c3_i32_219 : BitVec 32 := 3#32
  let v235 : Index := Scalar.indexCast c3_i32_219
  let c0_i32_201 : BitVec 32 := 0#32
  let c0_i32_157 : BitVec 32 := 0#32
  let c1_i32_159 : BitVec 32 := 1#32
  let arg15 : BitVec 32 := Scf.iv c0_i32_157 c1_i32_159 k0_t3
  let c1_i32_200 : BitVec 32 := 1#32
  let v203 : BitVec 32 := Scalar.muli arg15 c1_i32_200
  let v204 : BitVec 32 := Scalar.addi c0_i32_201 v203
  let c16_i32_217 : BitVec 32 := 16#32
  let v233 : BitVec 32 := Scalar.muli v204 c16_i32_217
  let v236 : Index := Scalar.indexCast v233
  ![1, 3, v236.toNat]

def k0_chk21 (v209 : IVec S16 32) (v238 : IVec S16 32) : Prop :=
  (∀ a x, ((![v238, v209] : Fin 2 → IVec S16 32) a x).toNat < S16x3969.size a)
theorem k0_idx21_inb : ∀ (v209 : IVec S16 32) (v238 : IVec S16 32) (k0_hw21 : k0_chk21 v209 v238), ∀ a x, ((![v238, v209] : Fin 2 → IVec S16 32) a x).toNat < S16x3969.size a := fun v209 v238 k0_hw21 => k0_hw21
def k0_off31 (k0_t3 : Fin k0_t3_loop.trips) : Fin 3 → Nat :=
  let c1_i32_221 : BitVec 32 := 1#32
  let v241 : Index := Scalar.indexCast c1_i32_221
  let c4_i32_222 : BitVec 32 := 4#32
  let v242 : Index := Scalar.indexCast c4_i32_222
  let c0_i32_201 : BitVec 32 := 0#32
  let c0_i32_157 : BitVec 32 := 0#32
  let c1_i32_159 : BitVec 32 := 1#32
  let arg15 : BitVec 32 := Scf.iv c0_i32_157 c1_i32_159 k0_t3
  let c1_i32_200 : BitVec 32 := 1#32
  let v203 : BitVec 32 := Scalar.muli arg15 c1_i32_200
  let v204 : BitVec 32 := Scalar.addi c0_i32_201 v203
  let c16_i32_220 : BitVec 32 := 16#32
  let v240 : BitVec 32 := Scalar.muli v204 c16_i32_220
  let v243 : Index := Scalar.indexCast v240
  ![1, 4, v243.toNat]

def k0_chk22 (v209 : IVec S16 32) (v245 : IVec S16 32) : Prop :=
  (∀ a x, ((![v245, v209] : Fin 2 → IVec S16 32) a x).toNat < S16x3969.size a)
theorem k0_idx22_inb : ∀ (v209 : IVec S16 32) (v245 : IVec S16 32) (k0_hw22 : k0_chk22 v209 v245), ∀ a x, ((![v245, v209] : Fin 2 → IVec S16 32) a x).toNat < S16x3969.size a := fun v209 v245 k0_hw22 => k0_hw22
def k0_off32 (k0_t3 : Fin k0_t3_loop.trips) : Fin 3 → Nat :=
  let c1_i32_224 : BitVec 32 := 1#32
  let v248 : Index := Scalar.indexCast c1_i32_224
  let c5_i32_225 : BitVec 32 := 5#32
  let v249 : Index := Scalar.indexCast c5_i32_225
  let c0_i32_201 : BitVec 32 := 0#32
  let c0_i32_157 : BitVec 32 := 0#32
  let c1_i32_159 : BitVec 32 := 1#32
  let arg15 : BitVec 32 := Scf.iv c0_i32_157 c1_i32_159 k0_t3
  let c1_i32_200 : BitVec 32 := 1#32
  let v203 : BitVec 32 := Scalar.muli arg15 c1_i32_200
  let v204 : BitVec 32 := Scalar.addi c0_i32_201 v203
  let c16_i32_223 : BitVec 32 := 16#32
  let v247 : BitVec 32 := Scalar.muli v204 c16_i32_223
  let v250 : Index := Scalar.indexCast v247
  ![1, 5, v250.toNat]

def k0_chk23 (v209 : IVec S16 32) (v252 : IVec S16 32) : Prop :=
  (∀ a x, ((![v252, v209] : Fin 2 → IVec S16 32) a x).toNat < S16x3969.size a)
theorem k0_idx23_inb : ∀ (v209 : IVec S16 32) (v252 : IVec S16 32) (k0_hw23 : k0_chk23 v209 v252), ∀ a x, ((![v252, v209] : Fin 2 → IVec S16 32) a x).toNat < S16x3969.size a := fun v209 v252 k0_hw23 => k0_hw23
def k0_off33 (k0_t3 : Fin k0_t3_loop.trips) : Fin 3 → Nat :=
  let c1_i32_227 : BitVec 32 := 1#32
  let v255 : Index := Scalar.indexCast c1_i32_227
  let c6_i32_228 : BitVec 32 := 6#32
  let v256 : Index := Scalar.indexCast c6_i32_228
  let c0_i32_201 : BitVec 32 := 0#32
  let c0_i32_157 : BitVec 32 := 0#32
  let c1_i32_159 : BitVec 32 := 1#32
  let arg15 : BitVec 32 := Scf.iv c0_i32_157 c1_i32_159 k0_t3
  let c1_i32_200 : BitVec 32 := 1#32
  let v203 : BitVec 32 := Scalar.muli arg15 c1_i32_200
  let v204 : BitVec 32 := Scalar.addi c0_i32_201 v203
  let c16_i32_226 : BitVec 32 := 16#32
  let v254 : BitVec 32 := Scalar.muli v204 c16_i32_226
  let v257 : Index := Scalar.indexCast v254
  ![1, 6, v257.toNat]

def k0_chk24 (v209 : IVec S16 32) (v259 : IVec S16 32) : Prop :=
  (∀ a x, ((![v259, v209] : Fin 2 → IVec S16 32) a x).toNat < S16x3969.size a)
theorem k0_idx24_inb : ∀ (v209 : IVec S16 32) (v259 : IVec S16 32) (k0_hw24 : k0_chk24 v209 v259), ∀ a x, ((![v259, v209] : Fin 2 → IVec S16 32) a x).toNat < S16x3969.size a := fun v209 v259 k0_hw24 => k0_hw24
def k0_off34 (k0_t3 : Fin k0_t3_loop.trips) : Fin 3 → Nat :=
  let c1_i32_230 : BitVec 32 := 1#32
  let v262 : Index := Scalar.indexCast c1_i32_230
  let c7_i32_231 : BitVec 32 := 7#32
  let v263 : Index := Scalar.indexCast c7_i32_231
  let c0_i32_201 : BitVec 32 := 0#32
  let c0_i32_157 : BitVec 32 := 0#32
  let c1_i32_159 : BitVec 32 := 1#32
  let arg15 : BitVec 32 := Scf.iv c0_i32_157 c1_i32_159 k0_t3
  let c1_i32_200 : BitVec 32 := 1#32
  let v203 : BitVec 32 := Scalar.muli arg15 c1_i32_200
  let v204 : BitVec 32 := Scalar.addi c0_i32_201 v203
  let c16_i32_229 : BitVec 32 := 16#32
  let v261 : BitVec 32 := Scalar.muli v204 c16_i32_229
  let v264 : Index := Scalar.indexCast v261
  ![1, 7, v264.toNat]

def k0_chk25 (v209 : IVec S16 32) (v266 : IVec S16 32) : Prop :=
  (∀ a x, ((![v266, v209] : Fin 2 → IVec S16 32) a x).toNat < S16x3969.size a)
theorem k0_idx25_inb : ∀ (v209 : IVec S16 32) (v266 : IVec S16 32) (k0_hw25 : k0_chk25 v209 v266), ∀ a x, ((![v266, v209] : Fin 2 → IVec S16 32) a x).toNat < S16x3969.size a := fun v209 v266 k0_hw25 => k0_hw25
def k0_off35 (k0_t3 : Fin k0_t3_loop.trips) : Fin 3 → Nat :=
  let c1_i32_233 : BitVec 32 := 1#32
  let v269 : Index := Scalar.indexCast c1_i32_233
  let c8_i32_234 : BitVec 32 := 8#32
  let v270 : Index := Scalar.indexCast c8_i32_234
  let c0_i32_201 : BitVec 32 := 0#32
  let c0_i32_157 : BitVec 32 := 0#32
  let c1_i32_159 : BitVec 32 := 1#32
  let arg15 : BitVec 32 := Scf.iv c0_i32_157 c1_i32_159 k0_t3
  let c1_i32_200 : BitVec 32 := 1#32
  let v203 : BitVec 32 := Scalar.muli arg15 c1_i32_200
  let v204 : BitVec 32 := Scalar.addi c0_i32_201 v203
  let c16_i32_232 : BitVec 32 := 16#32
  let v268 : BitVec 32 := Scalar.muli v204 c16_i32_232
  let v271 : Index := Scalar.indexCast v268
  ![1, 8, v271.toNat]

def k0_chk26 (v209 : IVec S16 32) (v273 : IVec S16 32) : Prop :=
  (∀ a x, ((![v273, v209] : Fin 2 → IVec S16 32) a x).toNat < S16x3969.size a)
theorem k0_idx26_inb : ∀ (v209 : IVec S16 32) (v273 : IVec S16 32) (k0_hw26 : k0_chk26 v209 v273), ∀ a x, ((![v273, v209] : Fin 2 → IVec S16 32) a x).toNat < S16x3969.size a := fun v209 v273 k0_hw26 => k0_hw26
def k0_off36 (k0_t3 : Fin k0_t3_loop.trips) : Fin 3 → Nat :=
  let c1_i32_236 : BitVec 32 := 1#32
  let v276 : Index := Scalar.indexCast c1_i32_236
  let c9_i32_237 : BitVec 32 := 9#32
  let v277 : Index := Scalar.indexCast c9_i32_237
  let c0_i32_201 : BitVec 32 := 0#32
  let c0_i32_157 : BitVec 32 := 0#32
  let c1_i32_159 : BitVec 32 := 1#32
  let arg15 : BitVec 32 := Scf.iv c0_i32_157 c1_i32_159 k0_t3
  let c1_i32_200 : BitVec 32 := 1#32
  let v203 : BitVec 32 := Scalar.muli arg15 c1_i32_200
  let v204 : BitVec 32 := Scalar.addi c0_i32_201 v203
  let c16_i32_235 : BitVec 32 := 16#32
  let v275 : BitVec 32 := Scalar.muli v204 c16_i32_235
  let v278 : Index := Scalar.indexCast v275
  ![1, 9, v278.toNat]

def k0_chk27 (v209 : IVec S16 32) (v280 : IVec S16 32) : Prop :=
  (∀ a x, ((![v280, v209] : Fin 2 → IVec S16 32) a x).toNat < S16x3969.size a)
theorem k0_idx27_inb : ∀ (v209 : IVec S16 32) (v280 : IVec S16 32) (k0_hw27 : k0_chk27 v209 v280), ∀ a x, ((![v280, v209] : Fin 2 → IVec S16 32) a x).toNat < S16x3969.size a := fun v209 v280 k0_hw27 => k0_hw27
def k0_off37 (k0_t3 : Fin k0_t3_loop.trips) : Fin 3 → Nat :=
  let c1_i32_240 : BitVec 32 := 1#32
  let v283 : Index := Scalar.indexCast c1_i32_240
  let c10_i32_241 : BitVec 32 := 10#32
  let v284 : Index := Scalar.indexCast c10_i32_241
  let c0_i32_201 : BitVec 32 := 0#32
  let c0_i32_157 : BitVec 32 := 0#32
  let c1_i32_159 : BitVec 32 := 1#32
  let arg15 : BitVec 32 := Scf.iv c0_i32_157 c1_i32_159 k0_t3
  let c1_i32_200 : BitVec 32 := 1#32
  let v203 : BitVec 32 := Scalar.muli arg15 c1_i32_200
  let v204 : BitVec 32 := Scalar.addi c0_i32_201 v203
  let c16_i32_239 : BitVec 32 := 16#32
  let v282 : BitVec 32 := Scalar.muli v204 c16_i32_239
  let v285 : Index := Scalar.indexCast v282
  ![1, 10, v285.toNat]

def k0_chk28 (v209 : IVec S16 32) (v287 : IVec S16 32) : Prop :=
  (∀ a x, ((![v287, v209] : Fin 2 → IVec S16 32) a x).toNat < S16x3969.size a)
theorem k0_idx28_inb : ∀ (v209 : IVec S16 32) (v287 : IVec S16 32) (k0_hw28 : k0_chk28 v209 v287), ∀ a x, ((![v287, v209] : Fin 2 → IVec S16 32) a x).toNat < S16x3969.size a := fun v209 v287 k0_hw28 => k0_hw28
def k0_off38 (k0_t3 : Fin k0_t3_loop.trips) : Fin 3 → Nat :=
  let c1_i32_243 : BitVec 32 := 1#32
  let v290 : Index := Scalar.indexCast c1_i32_243
  let c11_i32_244 : BitVec 32 := 11#32
  let v291 : Index := Scalar.indexCast c11_i32_244
  let c0_i32_201 : BitVec 32 := 0#32
  let c0_i32_157 : BitVec 32 := 0#32
  let c1_i32_159 : BitVec 32 := 1#32
  let arg15 : BitVec 32 := Scf.iv c0_i32_157 c1_i32_159 k0_t3
  let c1_i32_200 : BitVec 32 := 1#32
  let v203 : BitVec 32 := Scalar.muli arg15 c1_i32_200
  let v204 : BitVec 32 := Scalar.addi c0_i32_201 v203
  let c16_i32_242 : BitVec 32 := 16#32
  let v289 : BitVec 32 := Scalar.muli v204 c16_i32_242
  let v292 : Index := Scalar.indexCast v289
  ![1, 11, v292.toNat]

def k0_chk29 (v209 : IVec S16 32) (v294 : IVec S16 32) : Prop :=
  (∀ a x, ((![v294, v209] : Fin 2 → IVec S16 32) a x).toNat < S16x3969.size a)
theorem k0_idx29_inb : ∀ (v209 : IVec S16 32) (v294 : IVec S16 32) (k0_hw29 : k0_chk29 v209 v294), ∀ a x, ((![v294, v209] : Fin 2 → IVec S16 32) a x).toNat < S16x3969.size a := fun v209 v294 k0_hw29 => k0_hw29
def k0_off39 (k0_t3 : Fin k0_t3_loop.trips) : Fin 3 → Nat :=
  let c1_i32_246 : BitVec 32 := 1#32
  let v297 : Index := Scalar.indexCast c1_i32_246
  let c12_i32_247 : BitVec 32 := 12#32
  let v298 : Index := Scalar.indexCast c12_i32_247
  let c0_i32_201 : BitVec 32 := 0#32
  let c0_i32_157 : BitVec 32 := 0#32
  let c1_i32_159 : BitVec 32 := 1#32
  let arg15 : BitVec 32 := Scf.iv c0_i32_157 c1_i32_159 k0_t3
  let c1_i32_200 : BitVec 32 := 1#32
  let v203 : BitVec 32 := Scalar.muli arg15 c1_i32_200
  let v204 : BitVec 32 := Scalar.addi c0_i32_201 v203
  let c16_i32_245 : BitVec 32 := 16#32
  let v296 : BitVec 32 := Scalar.muli v204 c16_i32_245
  let v299 : Index := Scalar.indexCast v296
  ![1, 12, v299.toNat]

def k0_chk30 (v209 : IVec S16 32) (v301 : IVec S16 32) : Prop :=
  (∀ a x, ((![v301, v209] : Fin 2 → IVec S16 32) a x).toNat < S16x3969.size a)
theorem k0_idx30_inb : ∀ (v209 : IVec S16 32) (v301 : IVec S16 32) (k0_hw30 : k0_chk30 v209 v301), ∀ a x, ((![v301, v209] : Fin 2 → IVec S16 32) a x).toNat < S16x3969.size a := fun v209 v301 k0_hw30 => k0_hw30
def k0_off40 (k0_t3 : Fin k0_t3_loop.trips) : Fin 3 → Nat :=
  let c1_i32_249 : BitVec 32 := 1#32
  let v304 : Index := Scalar.indexCast c1_i32_249
  let c13_i32_250 : BitVec 32 := 13#32
  let v305 : Index := Scalar.indexCast c13_i32_250
  let c0_i32_201 : BitVec 32 := 0#32
  let c0_i32_157 : BitVec 32 := 0#32
  let c1_i32_159 : BitVec 32 := 1#32
  let arg15 : BitVec 32 := Scf.iv c0_i32_157 c1_i32_159 k0_t3
  let c1_i32_200 : BitVec 32 := 1#32
  let v203 : BitVec 32 := Scalar.muli arg15 c1_i32_200
  let v204 : BitVec 32 := Scalar.addi c0_i32_201 v203
  let c16_i32_248 : BitVec 32 := 16#32
  let v303 : BitVec 32 := Scalar.muli v204 c16_i32_248
  let v306 : Index := Scalar.indexCast v303
  ![1, 13, v306.toNat]

def k0_chk31 (v209 : IVec S16 32) (v308 : IVec S16 32) : Prop :=
  (∀ a x, ((![v308, v209] : Fin 2 → IVec S16 32) a x).toNat < S16x3969.size a)
theorem k0_idx31_inb : ∀ (v209 : IVec S16 32) (v308 : IVec S16 32) (k0_hw31 : k0_chk31 v209 v308), ∀ a x, ((![v308, v209] : Fin 2 → IVec S16 32) a x).toNat < S16x3969.size a := fun v209 v308 k0_hw31 => k0_hw31
def k0_off41 (k0_t3 : Fin k0_t3_loop.trips) : Fin 3 → Nat :=
  let c1_i32_252 : BitVec 32 := 1#32
  let v311 : Index := Scalar.indexCast c1_i32_252
  let c14_i32_253 : BitVec 32 := 14#32
  let v312 : Index := Scalar.indexCast c14_i32_253
  let c0_i32_201 : BitVec 32 := 0#32
  let c0_i32_157 : BitVec 32 := 0#32
  let c1_i32_159 : BitVec 32 := 1#32
  let arg15 : BitVec 32 := Scf.iv c0_i32_157 c1_i32_159 k0_t3
  let c1_i32_200 : BitVec 32 := 1#32
  let v203 : BitVec 32 := Scalar.muli arg15 c1_i32_200
  let v204 : BitVec 32 := Scalar.addi c0_i32_201 v203
  let c16_i32_251 : BitVec 32 := 16#32
  let v310 : BitVec 32 := Scalar.muli v204 c16_i32_251
  let v313 : Index := Scalar.indexCast v310
  ![1, 14, v313.toNat]

def k0_chk32 (v209 : IVec S16 32) (v315 : IVec S16 32) : Prop :=
  (∀ a x, ((![v315, v209] : Fin 2 → IVec S16 32) a x).toNat < S16x3969.size a)
theorem k0_idx32_inb : ∀ (v209 : IVec S16 32) (v315 : IVec S16 32) (k0_hw32 : k0_chk32 v209 v315), ∀ a x, ((![v315, v209] : Fin 2 → IVec S16 32) a x).toNat < S16x3969.size a := fun v209 v315 k0_hw32 => k0_hw32
def k0_off42 (k0_t3 : Fin k0_t3_loop.trips) : Fin 3 → Nat :=
  let c1_i32_255 : BitVec 32 := 1#32
  let v318 : Index := Scalar.indexCast c1_i32_255
  let c15_i32_256 : BitVec 32 := 15#32
  let v319 : Index := Scalar.indexCast c15_i32_256
  let c0_i32_201 : BitVec 32 := 0#32
  let c0_i32_157 : BitVec 32 := 0#32
  let c1_i32_159 : BitVec 32 := 1#32
  let arg15 : BitVec 32 := Scf.iv c0_i32_157 c1_i32_159 k0_t3
  let c1_i32_200 : BitVec 32 := 1#32
  let v203 : BitVec 32 := Scalar.muli arg15 c1_i32_200
  let v204 : BitVec 32 := Scalar.addi c0_i32_201 v203
  let c16_i32_254 : BitVec 32 := 16#32
  let v317 : BitVec 32 := Scalar.muli v204 c16_i32_254
  let v320 : Index := Scalar.indexCast v317
  ![1, 15, v320.toNat]
def k0_cond5 (k0_t1 : Fin k0_t1_loop.trips) : BitVec 1 :=
  let c0_i32_12 : BitVec 32 := 0#32
  let c1_i32_13 : BitVec 32 := 1#32
  let arg14 : BitVec 32 := Scf.iv c0_i32_12 c1_i32_13 k0_t1
  let c3_i32_178 : BitVec 32 := 3#32
  let v183 : BitVec 32 := Scalar.muli arg14 c3_i32_178
  let c2_i32_179 : BitVec 32 := 2#32
  let v184 : BitVec 32 := Scalar.addi v183 c2_i32_179
  let c2_i32_180 : BitVec 32 := 2#32
  let v185 : BitVec 32 := Scalar.addi v184 c2_i32_180
  let c32_i32_181 : BitVec 32 := 32#32
  let v186 : BitVec 1 := Scalar.cmpi .slt v185 c32_i32_181
  let v187 : BitVec 32 := Scalar.extui v186
  let c0_i32_182 : BitVec 32 := 0#32
  let v188 : BitVec 1 := Scalar.cmpi .ne v187 c0_i32_182
  v188

def k0_off43 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_12 : BitVec 32 := 0#32
  let c1_i32_13 : BitVec 32 := 1#32
  let arg14 : BitVec 32 := Scf.iv c0_i32_12 c1_i32_13 k0_t1
  let c3_i32_170 : BitVec 32 := 3#32
  let v172 : BitVec 32 := Scalar.muli arg14 c3_i32_170
  let v173 : BitVec 32 := Scalar.addi v2 v172
  let c2_i32_171 : BitVec 32 := 2#32
  let v174 : BitVec 32 := Scalar.addi v173 c2_i32_171
  let c2_i32_200 : BitVec 32 := 2#32
  let v203 : BitVec 32 := Scalar.addi v174 c2_i32_200
  let c0_i32_204 : BitVec 32 := 0#32
  ![v203.toNat, 0]
def k0_cond6 (k0_t1 : Fin k0_t1_loop.trips) : BitVec 1 :=
  let c0_i32_12 : BitVec 32 := 0#32
  let c1_i32_13 : BitVec 32 := 1#32
  let arg14 : BitVec 32 := Scf.iv c0_i32_12 c1_i32_13 k0_t1
  let c3_i32_183 : BitVec 32 := 3#32
  let v189 : BitVec 32 := Scalar.muli arg14 c3_i32_183
  let c2_i32_184 : BitVec 32 := 2#32
  let v190 : BitVec 32 := Scalar.addi v189 c2_i32_184
  let c3_i32_185 : BitVec 32 := 3#32
  let v191 : BitVec 1 := Scalar.cmpi .sge v190 c3_i32_185
  let v192 : BitVec 32 := Scalar.extui v191
  let c0_i32_186 : BitVec 32 := 0#32
  let v193 : BitVec 1 := Scalar.cmpi .ne v192 c0_i32_186
  v193

def k0_off44 (i : grid0.Coords) (k0_t1 : Fin k0_t1_loop.trips) : Fin 3 → Nat :=
  let c0_i32_204 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c0_i32_12 : BitVec 32 := 0#32
  let c1_i32_13 : BitVec 32 := 1#32
  let arg14 : BitVec 32 := Scf.iv c0_i32_12 c1_i32_13 k0_t1
  let c3_i32_170 : BitVec 32 := 3#32
  let v172 : BitVec 32 := Scalar.muli arg14 c3_i32_170
  let v173 : BitVec 32 := Scalar.addi v2 v172
  let c2_i32_171 : BitVec 32 := 2#32
  let v174 : BitVec 32 := Scalar.addi v173 c2_i32_171
  let c3_i32_200 : BitVec 32 := 3#32
  let v203 : BitVec 32 := Scalar.subi v174 c3_i32_200
  let c0_i32_205 : BitVec 32 := 0#32
  ![0, v203.toNat, 0]
@[reducible] def k0_t4_loop : Scf.Loop 32 :=
  let c0_i32_187 : BitVec 32 := 0#32
  let c64_i32_188 : BitVec 32 := 64#32
  let v194 : BitVec 32 := Scalar.addi c0_i32_187 c64_i32_188
  let c1_i32_189 : BitVec 32 := 1#32
  ⟨c0_i32_187, v194, c1_i32_189⟩
def k0_off45 (k0_t4 : Fin k0_t4_loop.trips) : Fin 3 → Nat :=
  let c2_i32_202 : BitVec 32 := 2#32
  let v206 : Index := Scalar.indexCast c2_i32_202
  let c0_i32_203 : BitVec 32 := 0#32
  let v207 : Index := Scalar.indexCast c0_i32_203
  let c0_i32_201 : BitVec 32 := 0#32
  let c0_i32_187 : BitVec 32 := 0#32
  let c1_i32_189 : BitVec 32 := 1#32
  let arg15 : BitVec 32 := Scf.iv c0_i32_187 c1_i32_189 k0_t4
  let c1_i32_200 : BitVec 32 := 1#32
  let v203 : BitVec 32 := Scalar.muli arg15 c1_i32_200
  let v204 : BitVec 32 := Scalar.addi c0_i32_201 v203
  let c16_i32 : BitVec 32 := 16#32
  let v205 : BitVec 32 := Scalar.muli v204 c16_i32
  let v208 : Index := Scalar.indexCast v205
  ![2, 0, v208.toNat]

def k0_chk33 (v209 : IVec S16 32) (v210 : IVec S16 32) : Prop :=
  (∀ a x, ((![v210, v209] : Fin 2 → IVec S16 32) a x).toNat < S16x3969.size a)
theorem k0_idx33_inb : ∀ (v209 : IVec S16 32) (v210 : IVec S16 32) (k0_hw33 : k0_chk33 v209 v210), ∀ a x, ((![v210, v209] : Fin 2 → IVec S16 32) a x).toNat < S16x3969.size a := fun v209 v210 k0_hw33 => k0_hw33
def k0_off46 (k0_t4 : Fin k0_t4_loop.trips) : Fin 3 → Nat :=
  let c2_i32_206 : BitVec 32 := 2#32
  let v213 : Index := Scalar.indexCast c2_i32_206
  let c0_i32_207 : BitVec 32 := 0#32
  let v214 : Index := Scalar.indexCast c0_i32_207
  let c0_i32_201 : BitVec 32 := 0#32
  let c0_i32_187 : BitVec 32 := 0#32
  let c1_i32_189 : BitVec 32 := 1#32
  let arg15 : BitVec 32 := Scf.iv c0_i32_187 c1_i32_189 k0_t4
  let c1_i32_200 : BitVec 32 := 1#32
  let v203 : BitVec 32 := Scalar.muli arg15 c1_i32_200
  let v204 : BitVec 32 := Scalar.addi c0_i32_201 v203
  let c16_i32_205 : BitVec 32 := 16#32
  let v212 : BitVec 32 := Scalar.muli v204 c16_i32_205
  let v215 : Index := Scalar.indexCast v212
  ![2, 0, v215.toNat]

def k0_chk34 (v209 : IVec S16 32) (v217 : IVec S16 32) : Prop :=
  (∀ a x, ((![v217, v209] : Fin 2 → IVec S16 32) a x).toNat < S16x3969.size a)
theorem k0_idx34_inb : ∀ (v209 : IVec S16 32) (v217 : IVec S16 32) (k0_hw34 : k0_chk34 v209 v217), ∀ a x, ((![v217, v209] : Fin 2 → IVec S16 32) a x).toNat < S16x3969.size a := fun v209 v217 k0_hw34 => k0_hw34
def k0_off47 (k0_t4 : Fin k0_t4_loop.trips) : Fin 3 → Nat :=
  let c2_i32_210 : BitVec 32 := 2#32
  let v220 : Index := Scalar.indexCast c2_i32_210
  let c1_i32_211 : BitVec 32 := 1#32
  let v221 : Index := Scalar.indexCast c1_i32_211
  let c0_i32_201 : BitVec 32 := 0#32
  let c0_i32_187 : BitVec 32 := 0#32
  let c1_i32_189 : BitVec 32 := 1#32
  let arg15 : BitVec 32 := Scf.iv c0_i32_187 c1_i32_189 k0_t4
  let c1_i32_200 : BitVec 32 := 1#32
  let v203 : BitVec 32 := Scalar.muli arg15 c1_i32_200
  let v204 : BitVec 32 := Scalar.addi c0_i32_201 v203
  let c16_i32_209 : BitVec 32 := 16#32
  let v219 : BitVec 32 := Scalar.muli v204 c16_i32_209
  let v222 : Index := Scalar.indexCast v219
  ![2, 1, v222.toNat]

def k0_chk35 (v209 : IVec S16 32) (v224 : IVec S16 32) : Prop :=
  (∀ a x, ((![v224, v209] : Fin 2 → IVec S16 32) a x).toNat < S16x3969.size a)
theorem k0_idx35_inb : ∀ (v209 : IVec S16 32) (v224 : IVec S16 32) (k0_hw35 : k0_chk35 v209 v224), ∀ a x, ((![v224, v209] : Fin 2 → IVec S16 32) a x).toNat < S16x3969.size a := fun v209 v224 k0_hw35 => k0_hw35
def k0_off48 (k0_t4 : Fin k0_t4_loop.trips) : Fin 3 → Nat :=
  let c2_i32_214 : BitVec 32 := 2#32
  let v227 : Index := Scalar.indexCast c2_i32_214
  let c2_i32_215 : BitVec 32 := 2#32
  let v228 : Index := Scalar.indexCast c2_i32_215
  let c0_i32_201 : BitVec 32 := 0#32
  let c0_i32_187 : BitVec 32 := 0#32
  let c1_i32_189 : BitVec 32 := 1#32
  let arg15 : BitVec 32 := Scf.iv c0_i32_187 c1_i32_189 k0_t4
  let c1_i32_200 : BitVec 32 := 1#32
  let v203 : BitVec 32 := Scalar.muli arg15 c1_i32_200
  let v204 : BitVec 32 := Scalar.addi c0_i32_201 v203
  let c16_i32_213 : BitVec 32 := 16#32
  let v226 : BitVec 32 := Scalar.muli v204 c16_i32_213
  let v229 : Index := Scalar.indexCast v226
  ![2, 2, v229.toNat]

def k0_chk36 (v209 : IVec S16 32) (v231 : IVec S16 32) : Prop :=
  (∀ a x, ((![v231, v209] : Fin 2 → IVec S16 32) a x).toNat < S16x3969.size a)
theorem k0_idx36_inb : ∀ (v209 : IVec S16 32) (v231 : IVec S16 32) (k0_hw36 : k0_chk36 v209 v231), ∀ a x, ((![v231, v209] : Fin 2 → IVec S16 32) a x).toNat < S16x3969.size a := fun v209 v231 k0_hw36 => k0_hw36
def k0_off49 (k0_t4 : Fin k0_t4_loop.trips) : Fin 3 → Nat :=
  let c2_i32_218 : BitVec 32 := 2#32
  let v234 : Index := Scalar.indexCast c2_i32_218
  let c3_i32_219 : BitVec 32 := 3#32
  let v235 : Index := Scalar.indexCast c3_i32_219
  let c0_i32_201 : BitVec 32 := 0#32
  let c0_i32_187 : BitVec 32 := 0#32
  let c1_i32_189 : BitVec 32 := 1#32
  let arg15 : BitVec 32 := Scf.iv c0_i32_187 c1_i32_189 k0_t4
  let c1_i32_200 : BitVec 32 := 1#32
  let v203 : BitVec 32 := Scalar.muli arg15 c1_i32_200
  let v204 : BitVec 32 := Scalar.addi c0_i32_201 v203
  let c16_i32_217 : BitVec 32 := 16#32
  let v233 : BitVec 32 := Scalar.muli v204 c16_i32_217
  let v236 : Index := Scalar.indexCast v233
  ![2, 3, v236.toNat]

def k0_chk37 (v209 : IVec S16 32) (v238 : IVec S16 32) : Prop :=
  (∀ a x, ((![v238, v209] : Fin 2 → IVec S16 32) a x).toNat < S16x3969.size a)
theorem k0_idx37_inb : ∀ (v209 : IVec S16 32) (v238 : IVec S16 32) (k0_hw37 : k0_chk37 v209 v238), ∀ a x, ((![v238, v209] : Fin 2 → IVec S16 32) a x).toNat < S16x3969.size a := fun v209 v238 k0_hw37 => k0_hw37
def k0_off50 (k0_t4 : Fin k0_t4_loop.trips) : Fin 3 → Nat :=
  let c2_i32_221 : BitVec 32 := 2#32
  let v241 : Index := Scalar.indexCast c2_i32_221
  let c4_i32_222 : BitVec 32 := 4#32
  let v242 : Index := Scalar.indexCast c4_i32_222
  let c0_i32_201 : BitVec 32 := 0#32
  let c0_i32_187 : BitVec 32 := 0#32
  let c1_i32_189 : BitVec 32 := 1#32
  let arg15 : BitVec 32 := Scf.iv c0_i32_187 c1_i32_189 k0_t4
  let c1_i32_200 : BitVec 32 := 1#32
  let v203 : BitVec 32 := Scalar.muli arg15 c1_i32_200
  let v204 : BitVec 32 := Scalar.addi c0_i32_201 v203
  let c16_i32_220 : BitVec 32 := 16#32
  let v240 : BitVec 32 := Scalar.muli v204 c16_i32_220
  let v243 : Index := Scalar.indexCast v240
  ![2, 4, v243.toNat]

def k0_chk38 (v209 : IVec S16 32) (v245 : IVec S16 32) : Prop :=
  (∀ a x, ((![v245, v209] : Fin 2 → IVec S16 32) a x).toNat < S16x3969.size a)
theorem k0_idx38_inb : ∀ (v209 : IVec S16 32) (v245 : IVec S16 32) (k0_hw38 : k0_chk38 v209 v245), ∀ a x, ((![v245, v209] : Fin 2 → IVec S16 32) a x).toNat < S16x3969.size a := fun v209 v245 k0_hw38 => k0_hw38
def k0_off51 (k0_t4 : Fin k0_t4_loop.trips) : Fin 3 → Nat :=
  let c2_i32_224 : BitVec 32 := 2#32
  let v248 : Index := Scalar.indexCast c2_i32_224
  let c5_i32_225 : BitVec 32 := 5#32
  let v249 : Index := Scalar.indexCast c5_i32_225
  let c0_i32_201 : BitVec 32 := 0#32
  let c0_i32_187 : BitVec 32 := 0#32
  let c1_i32_189 : BitVec 32 := 1#32
  let arg15 : BitVec 32 := Scf.iv c0_i32_187 c1_i32_189 k0_t4
  let c1_i32_200 : BitVec 32 := 1#32
  let v203 : BitVec 32 := Scalar.muli arg15 c1_i32_200
  let v204 : BitVec 32 := Scalar.addi c0_i32_201 v203
  let c16_i32_223 : BitVec 32 := 16#32
  let v247 : BitVec 32 := Scalar.muli v204 c16_i32_223
  let v250 : Index := Scalar.indexCast v247
  ![2, 5, v250.toNat]

def k0_chk39 (v209 : IVec S16 32) (v252 : IVec S16 32) : Prop :=
  (∀ a x, ((![v252, v209] : Fin 2 → IVec S16 32) a x).toNat < S16x3969.size a)
theorem k0_idx39_inb : ∀ (v209 : IVec S16 32) (v252 : IVec S16 32) (k0_hw39 : k0_chk39 v209 v252), ∀ a x, ((![v252, v209] : Fin 2 → IVec S16 32) a x).toNat < S16x3969.size a := fun v209 v252 k0_hw39 => k0_hw39
def k0_off52 (k0_t4 : Fin k0_t4_loop.trips) : Fin 3 → Nat :=
  let c2_i32_227 : BitVec 32 := 2#32
  let v255 : Index := Scalar.indexCast c2_i32_227
  let c6_i32_228 : BitVec 32 := 6#32
  let v256 : Index := Scalar.indexCast c6_i32_228
  let c0_i32_201 : BitVec 32 := 0#32
  let c0_i32_187 : BitVec 32 := 0#32
  let c1_i32_189 : BitVec 32 := 1#32
  let arg15 : BitVec 32 := Scf.iv c0_i32_187 c1_i32_189 k0_t4
  let c1_i32_200 : BitVec 32 := 1#32
  let v203 : BitVec 32 := Scalar.muli arg15 c1_i32_200
  let v204 : BitVec 32 := Scalar.addi c0_i32_201 v203
  let c16_i32_226 : BitVec 32 := 16#32
  let v254 : BitVec 32 := Scalar.muli v204 c16_i32_226
  let v257 : Index := Scalar.indexCast v254
  ![2, 6, v257.toNat]

def k0_chk40 (v209 : IVec S16 32) (v259 : IVec S16 32) : Prop :=
  (∀ a x, ((![v259, v209] : Fin 2 → IVec S16 32) a x).toNat < S16x3969.size a)
theorem k0_idx40_inb : ∀ (v209 : IVec S16 32) (v259 : IVec S16 32) (k0_hw40 : k0_chk40 v209 v259), ∀ a x, ((![v259, v209] : Fin 2 → IVec S16 32) a x).toNat < S16x3969.size a := fun v209 v259 k0_hw40 => k0_hw40
def k0_off53 (k0_t4 : Fin k0_t4_loop.trips) : Fin 3 → Nat :=
  let c2_i32_230 : BitVec 32 := 2#32
  let v262 : Index := Scalar.indexCast c2_i32_230
  let c7_i32_231 : BitVec 32 := 7#32
  let v263 : Index := Scalar.indexCast c7_i32_231
  let c0_i32_201 : BitVec 32 := 0#32
  let c0_i32_187 : BitVec 32 := 0#32
  let c1_i32_189 : BitVec 32 := 1#32
  let arg15 : BitVec 32 := Scf.iv c0_i32_187 c1_i32_189 k0_t4
  let c1_i32_200 : BitVec 32 := 1#32
  let v203 : BitVec 32 := Scalar.muli arg15 c1_i32_200
  let v204 : BitVec 32 := Scalar.addi c0_i32_201 v203
  let c16_i32_229 : BitVec 32 := 16#32
  let v261 : BitVec 32 := Scalar.muli v204 c16_i32_229
  let v264 : Index := Scalar.indexCast v261
  ![2, 7, v264.toNat]

def k0_chk41 (v209 : IVec S16 32) (v266 : IVec S16 32) : Prop :=
  (∀ a x, ((![v266, v209] : Fin 2 → IVec S16 32) a x).toNat < S16x3969.size a)
theorem k0_idx41_inb : ∀ (v209 : IVec S16 32) (v266 : IVec S16 32) (k0_hw41 : k0_chk41 v209 v266), ∀ a x, ((![v266, v209] : Fin 2 → IVec S16 32) a x).toNat < S16x3969.size a := fun v209 v266 k0_hw41 => k0_hw41
def k0_off54 (k0_t4 : Fin k0_t4_loop.trips) : Fin 3 → Nat :=
  let c2_i32_233 : BitVec 32 := 2#32
  let v269 : Index := Scalar.indexCast c2_i32_233
  let c8_i32_234 : BitVec 32 := 8#32
  let v270 : Index := Scalar.indexCast c8_i32_234
  let c0_i32_201 : BitVec 32 := 0#32
  let c0_i32_187 : BitVec 32 := 0#32
  let c1_i32_189 : BitVec 32 := 1#32
  let arg15 : BitVec 32 := Scf.iv c0_i32_187 c1_i32_189 k0_t4
  let c1_i32_200 : BitVec 32 := 1#32
  let v203 : BitVec 32 := Scalar.muli arg15 c1_i32_200
  let v204 : BitVec 32 := Scalar.addi c0_i32_201 v203
  let c16_i32_232 : BitVec 32 := 16#32
  let v268 : BitVec 32 := Scalar.muli v204 c16_i32_232
  let v271 : Index := Scalar.indexCast v268
  ![2, 8, v271.toNat]

def k0_chk42 (v209 : IVec S16 32) (v273 : IVec S16 32) : Prop :=
  (∀ a x, ((![v273, v209] : Fin 2 → IVec S16 32) a x).toNat < S16x3969.size a)
theorem k0_idx42_inb : ∀ (v209 : IVec S16 32) (v273 : IVec S16 32) (k0_hw42 : k0_chk42 v209 v273), ∀ a x, ((![v273, v209] : Fin 2 → IVec S16 32) a x).toNat < S16x3969.size a := fun v209 v273 k0_hw42 => k0_hw42
def k0_off55 (k0_t4 : Fin k0_t4_loop.trips) : Fin 3 → Nat :=
  let c2_i32_236 : BitVec 32 := 2#32
  let v276 : Index := Scalar.indexCast c2_i32_236
  let c9_i32_237 : BitVec 32 := 9#32
  let v277 : Index := Scalar.indexCast c9_i32_237
  let c0_i32_201 : BitVec 32 := 0#32
  let c0_i32_187 : BitVec 32 := 0#32
  let c1_i32_189 : BitVec 32 := 1#32
  let arg15 : BitVec 32 := Scf.iv c0_i32_187 c1_i32_189 k0_t4
  let c1_i32_200 : BitVec 32 := 1#32
  let v203 : BitVec 32 := Scalar.muli arg15 c1_i32_200
  let v204 : BitVec 32 := Scalar.addi c0_i32_201 v203
  let c16_i32_235 : BitVec 32 := 16#32
  let v275 : BitVec 32 := Scalar.muli v204 c16_i32_235
  let v278 : Index := Scalar.indexCast v275
  ![2, 9, v278.toNat]

def k0_chk43 (v209 : IVec S16 32) (v280 : IVec S16 32) : Prop :=
  (∀ a x, ((![v280, v209] : Fin 2 → IVec S16 32) a x).toNat < S16x3969.size a)
theorem k0_idx43_inb : ∀ (v209 : IVec S16 32) (v280 : IVec S16 32) (k0_hw43 : k0_chk43 v209 v280), ∀ a x, ((![v280, v209] : Fin 2 → IVec S16 32) a x).toNat < S16x3969.size a := fun v209 v280 k0_hw43 => k0_hw43
def k0_off56 (k0_t4 : Fin k0_t4_loop.trips) : Fin 3 → Nat :=
  let c2_i32_240 : BitVec 32 := 2#32
  let v283 : Index := Scalar.indexCast c2_i32_240
  let c10_i32_241 : BitVec 32 := 10#32
  let v284 : Index := Scalar.indexCast c10_i32_241
  let c0_i32_201 : BitVec 32 := 0#32
  let c0_i32_187 : BitVec 32 := 0#32
  let c1_i32_189 : BitVec 32 := 1#32
  let arg15 : BitVec 32 := Scf.iv c0_i32_187 c1_i32_189 k0_t4
  let c1_i32_200 : BitVec 32 := 1#32
  let v203 : BitVec 32 := Scalar.muli arg15 c1_i32_200
  let v204 : BitVec 32 := Scalar.addi c0_i32_201 v203
  let c16_i32_239 : BitVec 32 := 16#32
  let v282 : BitVec 32 := Scalar.muli v204 c16_i32_239
  let v285 : Index := Scalar.indexCast v282
  ![2, 10, v285.toNat]

def k0_chk44 (v209 : IVec S16 32) (v287 : IVec S16 32) : Prop :=
  (∀ a x, ((![v287, v209] : Fin 2 → IVec S16 32) a x).toNat < S16x3969.size a)
theorem k0_idx44_inb : ∀ (v209 : IVec S16 32) (v287 : IVec S16 32) (k0_hw44 : k0_chk44 v209 v287), ∀ a x, ((![v287, v209] : Fin 2 → IVec S16 32) a x).toNat < S16x3969.size a := fun v209 v287 k0_hw44 => k0_hw44
def k0_off57 (k0_t4 : Fin k0_t4_loop.trips) : Fin 3 → Nat :=
  let c2_i32_243 : BitVec 32 := 2#32
  let v290 : Index := Scalar.indexCast c2_i32_243
  let c11_i32_244 : BitVec 32 := 11#32
  let v291 : Index := Scalar.indexCast c11_i32_244
  let c0_i32_201 : BitVec 32 := 0#32
  let c0_i32_187 : BitVec 32 := 0#32
  let c1_i32_189 : BitVec 32 := 1#32
  let arg15 : BitVec 32 := Scf.iv c0_i32_187 c1_i32_189 k0_t4
  let c1_i32_200 : BitVec 32 := 1#32
  let v203 : BitVec 32 := Scalar.muli arg15 c1_i32_200
  let v204 : BitVec 32 := Scalar.addi c0_i32_201 v203
  let c16_i32_242 : BitVec 32 := 16#32
  let v289 : BitVec 32 := Scalar.muli v204 c16_i32_242
  let v292 : Index := Scalar.indexCast v289
  ![2, 11, v292.toNat]

def k0_chk45 (v209 : IVec S16 32) (v294 : IVec S16 32) : Prop :=
  (∀ a x, ((![v294, v209] : Fin 2 → IVec S16 32) a x).toNat < S16x3969.size a)
theorem k0_idx45_inb : ∀ (v209 : IVec S16 32) (v294 : IVec S16 32) (k0_hw45 : k0_chk45 v209 v294), ∀ a x, ((![v294, v209] : Fin 2 → IVec S16 32) a x).toNat < S16x3969.size a := fun v209 v294 k0_hw45 => k0_hw45
def k0_off58 (k0_t4 : Fin k0_t4_loop.trips) : Fin 3 → Nat :=
  let c2_i32_246 : BitVec 32 := 2#32
  let v297 : Index := Scalar.indexCast c2_i32_246
  let c12_i32_247 : BitVec 32 := 12#32
  let v298 : Index := Scalar.indexCast c12_i32_247
  let c0_i32_201 : BitVec 32 := 0#32
  let c0_i32_187 : BitVec 32 := 0#32
  let c1_i32_189 : BitVec 32 := 1#32
  let arg15 : BitVec 32 := Scf.iv c0_i32_187 c1_i32_189 k0_t4
  let c1_i32_200 : BitVec 32 := 1#32
  let v203 : BitVec 32 := Scalar.muli arg15 c1_i32_200
  let v204 : BitVec 32 := Scalar.addi c0_i32_201 v203
  let c16_i32_245 : BitVec 32 := 16#32
  let v296 : BitVec 32 := Scalar.muli v204 c16_i32_245
  let v299 : Index := Scalar.indexCast v296
  ![2, 12, v299.toNat]

def k0_chk46 (v209 : IVec S16 32) (v301 : IVec S16 32) : Prop :=
  (∀ a x, ((![v301, v209] : Fin 2 → IVec S16 32) a x).toNat < S16x3969.size a)
theorem k0_idx46_inb : ∀ (v209 : IVec S16 32) (v301 : IVec S16 32) (k0_hw46 : k0_chk46 v209 v301), ∀ a x, ((![v301, v209] : Fin 2 → IVec S16 32) a x).toNat < S16x3969.size a := fun v209 v301 k0_hw46 => k0_hw46
def k0_off59 (k0_t4 : Fin k0_t4_loop.trips) : Fin 3 → Nat :=
  let c2_i32_249 : BitVec 32 := 2#32
  let v304 : Index := Scalar.indexCast c2_i32_249
  let c13_i32_250 : BitVec 32 := 13#32
  let v305 : Index := Scalar.indexCast c13_i32_250
  let c0_i32_201 : BitVec 32 := 0#32
  let c0_i32_187 : BitVec 32 := 0#32
  let c1_i32_189 : BitVec 32 := 1#32
  let arg15 : BitVec 32 := Scf.iv c0_i32_187 c1_i32_189 k0_t4
  let c1_i32_200 : BitVec 32 := 1#32
  let v203 : BitVec 32 := Scalar.muli arg15 c1_i32_200
  let v204 : BitVec 32 := Scalar.addi c0_i32_201 v203
  let c16_i32_248 : BitVec 32 := 16#32
  let v303 : BitVec 32 := Scalar.muli v204 c16_i32_248
  let v306 : Index := Scalar.indexCast v303
  ![2, 13, v306.toNat]

def k0_chk47 (v209 : IVec S16 32) (v308 : IVec S16 32) : Prop :=
  (∀ a x, ((![v308, v209] : Fin 2 → IVec S16 32) a x).toNat < S16x3969.size a)
theorem k0_idx47_inb : ∀ (v209 : IVec S16 32) (v308 : IVec S16 32) (k0_hw47 : k0_chk47 v209 v308), ∀ a x, ((![v308, v209] : Fin 2 → IVec S16 32) a x).toNat < S16x3969.size a := fun v209 v308 k0_hw47 => k0_hw47
def k0_off60 (k0_t4 : Fin k0_t4_loop.trips) : Fin 3 → Nat :=
  let c2_i32_252 : BitVec 32 := 2#32
  let v311 : Index := Scalar.indexCast c2_i32_252
  let c14_i32_253 : BitVec 32 := 14#32
  let v312 : Index := Scalar.indexCast c14_i32_253
  let c0_i32_201 : BitVec 32 := 0#32
  let c0_i32_187 : BitVec 32 := 0#32
  let c1_i32_189 : BitVec 32 := 1#32
  let arg15 : BitVec 32 := Scf.iv c0_i32_187 c1_i32_189 k0_t4
  let c1_i32_200 : BitVec 32 := 1#32
  let v203 : BitVec 32 := Scalar.muli arg15 c1_i32_200
  let v204 : BitVec 32 := Scalar.addi c0_i32_201 v203
  let c16_i32_251 : BitVec 32 := 16#32
  let v310 : BitVec 32 := Scalar.muli v204 c16_i32_251
  let v313 : Index := Scalar.indexCast v310
  ![2, 14, v313.toNat]

def k0_chk48 (v209 : IVec S16 32) (v315 : IVec S16 32) : Prop :=
  (∀ a x, ((![v315, v209] : Fin 2 → IVec S16 32) a x).toNat < S16x3969.size a)
theorem k0_idx48_inb : ∀ (v209 : IVec S16 32) (v315 : IVec S16 32) (k0_hw48 : k0_chk48 v209 v315), ∀ a x, ((![v315, v209] : Fin 2 → IVec S16 32) a x).toNat < S16x3969.size a := fun v209 v315 k0_hw48 => k0_hw48
def k0_off61 (k0_t4 : Fin k0_t4_loop.trips) : Fin 3 → Nat :=
  let c2_i32_255 : BitVec 32 := 2#32
  let v318 : Index := Scalar.indexCast c2_i32_255
  let c15_i32_256 : BitVec 32 := 15#32
  let v319 : Index := Scalar.indexCast c15_i32_256
  let c0_i32_201 : BitVec 32 := 0#32
  let c0_i32_187 : BitVec 32 := 0#32
  let c1_i32_189 : BitVec 32 := 1#32
  let arg15 : BitVec 32 := Scf.iv c0_i32_187 c1_i32_189 k0_t4
  let c1_i32_200 : BitVec 32 := 1#32
  let v203 : BitVec 32 := Scalar.muli arg15 c1_i32_200
  let v204 : BitVec 32 := Scalar.addi c0_i32_201 v203
  let c16_i32_254 : BitVec 32 := 16#32
  let v317 : BitVec 32 := Scalar.muli v204 c16_i32_254
  let v320 : Index := Scalar.indexCast v317
  ![2, 15, v320.toNat]
def k0_off62 (i : grid0.Coords) (c0_i32_15 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c30_i32 : BitVec 32 := 30#32
  let v21 : BitVec 32 := Scalar.addi v2 c30_i32
  let v22 : BitVec 32 := Scalar.addi v21 c0_i32_15
  let c0_i32_19 : BitVec 32 := 0#32
  ![v22.toNat, 0]
def k0_off63 (i : grid0.Coords) (c0_i32_15 : BitVec 32) : Fin 3 → Nat :=
  let c0_i32_25 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c30_i32 : BitVec 32 := 30#32
  let v21 : BitVec 32 := Scalar.addi v2 c30_i32
  let v22 : BitVec 32 := Scalar.addi v21 c0_i32_15
  let c3_i32 : BitVec 32 := 3#32
  let v31 : BitVec 32 := Scalar.subi v22 c3_i32
  let c0_i32_26 : BitVec 32 := 0#32
  ![0, v31.toNat, 0]
@[reducible] def k0_t5_loop : Scf.Loop 32 :=
  let c0_i32_31 : BitVec 32 := 0#32
  let c64_i32 : BitVec 32 := 64#32
  let v40 : BitVec 32 := Scalar.addi c0_i32_31 c64_i32
  let c1_i32_32 : BitVec 32 := 1#32
  ⟨c0_i32_31, v40, c1_i32_32⟩
def k0_off64 (k0_t5 : Fin k0_t5_loop.trips) : Fin 3 → Nat :=
  let c0_i32_112 : BitVec 32 := 0#32
  let v113 : Index := Scalar.indexCast c0_i32_112
  let c0_i32_113 : BitVec 32 := 0#32
  let v114 : Index := Scalar.indexCast c0_i32_113
  let c0_i32_111 : BitVec 32 := 0#32
  let c0_i32_31 : BitVec 32 := 0#32
  let c1_i32_32 : BitVec 32 := 1#32
  let arg14 : BitVec 32 := Scf.iv c0_i32_31 c1_i32_32 k0_t5
  let c1_i32_110 : BitVec 32 := 1#32
  let v110 : BitVec 32 := Scalar.muli arg14 c1_i32_110
  let v111 : BitVec 32 := Scalar.addi c0_i32_111 v110
  let c16_i32 : BitVec 32 := 16#32
  let v112 : BitVec 32 := Scalar.muli v111 c16_i32
  let v115 : Index := Scalar.indexCast v112
  ![0, 0, v115.toNat]

def k0_chk49 (v116 : IVec S16 32) (v117 : IVec S16 32) : Prop :=
  (∀ a x, ((![v117, v116] : Fin 2 → IVec S16 32) a x).toNat < S16x3969.size a)
theorem k0_idx49_inb : ∀ (v116 : IVec S16 32) (v117 : IVec S16 32) (k0_hw49 : k0_chk49 v116 v117), ∀ a x, ((![v117, v116] : Fin 2 → IVec S16 32) a x).toNat < S16x3969.size a := fun v116 v117 k0_hw49 => k0_hw49
def k0_off65 (k0_t5 : Fin k0_t5_loop.trips) : Fin 3 → Nat :=
  let c0_i32_116 : BitVec 32 := 0#32
  let v120 : Index := Scalar.indexCast c0_i32_116
  let c0_i32_117 : BitVec 32 := 0#32
  let v121 : Index := Scalar.indexCast c0_i32_117
  let c0_i32_111 : BitVec 32 := 0#32
  let c0_i32_31 : BitVec 32 := 0#32
  let c1_i32_32 : BitVec 32 := 1#32
  let arg14 : BitVec 32 := Scf.iv c0_i32_31 c1_i32_32 k0_t5
  let c1_i32_110 : BitVec 32 := 1#32
  let v110 : BitVec 32 := Scalar.muli arg14 c1_i32_110
  let v111 : BitVec 32 := Scalar.addi c0_i32_111 v110
  let c16_i32_115 : BitVec 32 := 16#32
  let v119 : BitVec 32 := Scalar.muli v111 c16_i32_115
  let v122 : Index := Scalar.indexCast v119
  ![0, 0, v122.toNat]

def k0_chk50 (v116 : IVec S16 32) (v124 : IVec S16 32) : Prop :=
  (∀ a x, ((![v124, v116] : Fin 2 → IVec S16 32) a x).toNat < S16x3969.size a)
theorem k0_idx50_inb : ∀ (v116 : IVec S16 32) (v124 : IVec S16 32) (k0_hw50 : k0_chk50 v116 v124), ∀ a x, ((![v124, v116] : Fin 2 → IVec S16 32) a x).toNat < S16x3969.size a := fun v116 v124 k0_hw50 => k0_hw50
def k0_off66 (k0_t5 : Fin k0_t5_loop.trips) : Fin 3 → Nat :=
  let c0_i32_120 : BitVec 32 := 0#32
  let v127 : Index := Scalar.indexCast c0_i32_120
  let c1_i32_121 : BitVec 32 := 1#32
  let v128 : Index := Scalar.indexCast c1_i32_121
  let c0_i32_111 : BitVec 32 := 0#32
  let c0_i32_31 : BitVec 32 := 0#32
  let c1_i32_32 : BitVec 32 := 1#32
  let arg14 : BitVec 32 := Scf.iv c0_i32_31 c1_i32_32 k0_t5
  let c1_i32_110 : BitVec 32 := 1#32
  let v110 : BitVec 32 := Scalar.muli arg14 c1_i32_110
  let v111 : BitVec 32 := Scalar.addi c0_i32_111 v110
  let c16_i32_119 : BitVec 32 := 16#32
  let v126 : BitVec 32 := Scalar.muli v111 c16_i32_119
  let v129 : Index := Scalar.indexCast v126
  ![0, 1, v129.toNat]

def k0_chk51 (v116 : IVec S16 32) (v131 : IVec S16 32) : Prop :=
  (∀ a x, ((![v131, v116] : Fin 2 → IVec S16 32) a x).toNat < S16x3969.size a)
theorem k0_idx51_inb : ∀ (v116 : IVec S16 32) (v131 : IVec S16 32) (k0_hw51 : k0_chk51 v116 v131), ∀ a x, ((![v131, v116] : Fin 2 → IVec S16 32) a x).toNat < S16x3969.size a := fun v116 v131 k0_hw51 => k0_hw51
def k0_off67 (k0_t5 : Fin k0_t5_loop.trips) : Fin 3 → Nat :=
  let c0_i32_124 : BitVec 32 := 0#32
  let v134 : Index := Scalar.indexCast c0_i32_124
  let c2_i32_125 : BitVec 32 := 2#32
  let v135 : Index := Scalar.indexCast c2_i32_125
  let c0_i32_111 : BitVec 32 := 0#32
  let c0_i32_31 : BitVec 32 := 0#32
  let c1_i32_32 : BitVec 32 := 1#32
  let arg14 : BitVec 32 := Scf.iv c0_i32_31 c1_i32_32 k0_t5
  let c1_i32_110 : BitVec 32 := 1#32
  let v110 : BitVec 32 := Scalar.muli arg14 c1_i32_110
  let v111 : BitVec 32 := Scalar.addi c0_i32_111 v110
  let c16_i32_123 : BitVec 32 := 16#32
  let v133 : BitVec 32 := Scalar.muli v111 c16_i32_123
  let v136 : Index := Scalar.indexCast v133
  ![0, 2, v136.toNat]

def k0_chk52 (v116 : IVec S16 32) (v138 : IVec S16 32) : Prop :=
  (∀ a x, ((![v138, v116] : Fin 2 → IVec S16 32) a x).toNat < S16x3969.size a)
theorem k0_idx52_inb : ∀ (v116 : IVec S16 32) (v138 : IVec S16 32) (k0_hw52 : k0_chk52 v116 v138), ∀ a x, ((![v138, v116] : Fin 2 → IVec S16 32) a x).toNat < S16x3969.size a := fun v116 v138 k0_hw52 => k0_hw52
def k0_off68 (k0_t5 : Fin k0_t5_loop.trips) : Fin 3 → Nat :=
  let c0_i32_128 : BitVec 32 := 0#32
  let v141 : Index := Scalar.indexCast c0_i32_128
  let c3_i32_129 : BitVec 32 := 3#32
  let v142 : Index := Scalar.indexCast c3_i32_129
  let c0_i32_111 : BitVec 32 := 0#32
  let c0_i32_31 : BitVec 32 := 0#32
  let c1_i32_32 : BitVec 32 := 1#32
  let arg14 : BitVec 32 := Scf.iv c0_i32_31 c1_i32_32 k0_t5
  let c1_i32_110 : BitVec 32 := 1#32
  let v110 : BitVec 32 := Scalar.muli arg14 c1_i32_110
  let v111 : BitVec 32 := Scalar.addi c0_i32_111 v110
  let c16_i32_127 : BitVec 32 := 16#32
  let v140 : BitVec 32 := Scalar.muli v111 c16_i32_127
  let v143 : Index := Scalar.indexCast v140
  ![0, 3, v143.toNat]

def k0_chk53 (v116 : IVec S16 32) (v145 : IVec S16 32) : Prop :=
  (∀ a x, ((![v145, v116] : Fin 2 → IVec S16 32) a x).toNat < S16x3969.size a)
theorem k0_idx53_inb : ∀ (v116 : IVec S16 32) (v145 : IVec S16 32) (k0_hw53 : k0_chk53 v116 v145), ∀ a x, ((![v145, v116] : Fin 2 → IVec S16 32) a x).toNat < S16x3969.size a := fun v116 v145 k0_hw53 => k0_hw53
def k0_off69 (k0_t5 : Fin k0_t5_loop.trips) : Fin 3 → Nat :=
  let c0_i32_131 : BitVec 32 := 0#32
  let v148 : Index := Scalar.indexCast c0_i32_131
  let c4_i32_132 : BitVec 32 := 4#32
  let v149 : Index := Scalar.indexCast c4_i32_132
  let c0_i32_111 : BitVec 32 := 0#32
  let c0_i32_31 : BitVec 32 := 0#32
  let c1_i32_32 : BitVec 32 := 1#32
  let arg14 : BitVec 32 := Scf.iv c0_i32_31 c1_i32_32 k0_t5
  let c1_i32_110 : BitVec 32 := 1#32
  let v110 : BitVec 32 := Scalar.muli arg14 c1_i32_110
  let v111 : BitVec 32 := Scalar.addi c0_i32_111 v110
  let c16_i32_130 : BitVec 32 := 16#32
  let v147 : BitVec 32 := Scalar.muli v111 c16_i32_130
  let v150 : Index := Scalar.indexCast v147
  ![0, 4, v150.toNat]

def k0_chk54 (v116 : IVec S16 32) (v152 : IVec S16 32) : Prop :=
  (∀ a x, ((![v152, v116] : Fin 2 → IVec S16 32) a x).toNat < S16x3969.size a)
theorem k0_idx54_inb : ∀ (v116 : IVec S16 32) (v152 : IVec S16 32) (k0_hw54 : k0_chk54 v116 v152), ∀ a x, ((![v152, v116] : Fin 2 → IVec S16 32) a x).toNat < S16x3969.size a := fun v116 v152 k0_hw54 => k0_hw54
def k0_off70 (k0_t5 : Fin k0_t5_loop.trips) : Fin 3 → Nat :=
  let c0_i32_134 : BitVec 32 := 0#32
  let v155 : Index := Scalar.indexCast c0_i32_134
  let c5_i32_135 : BitVec 32 := 5#32
  let v156 : Index := Scalar.indexCast c5_i32_135
  let c0_i32_111 : BitVec 32 := 0#32
  let c0_i32_31 : BitVec 32 := 0#32
  let c1_i32_32 : BitVec 32 := 1#32
  let arg14 : BitVec 32 := Scf.iv c0_i32_31 c1_i32_32 k0_t5
  let c1_i32_110 : BitVec 32 := 1#32
  let v110 : BitVec 32 := Scalar.muli arg14 c1_i32_110
  let v111 : BitVec 32 := Scalar.addi c0_i32_111 v110
  let c16_i32_133 : BitVec 32 := 16#32
  let v154 : BitVec 32 := Scalar.muli v111 c16_i32_133
  let v157 : Index := Scalar.indexCast v154
  ![0, 5, v157.toNat]

def k0_chk55 (v116 : IVec S16 32) (v159 : IVec S16 32) : Prop :=
  (∀ a x, ((![v159, v116] : Fin 2 → IVec S16 32) a x).toNat < S16x3969.size a)
theorem k0_idx55_inb : ∀ (v116 : IVec S16 32) (v159 : IVec S16 32) (k0_hw55 : k0_chk55 v116 v159), ∀ a x, ((![v159, v116] : Fin 2 → IVec S16 32) a x).toNat < S16x3969.size a := fun v116 v159 k0_hw55 => k0_hw55
def k0_off71 (k0_t5 : Fin k0_t5_loop.trips) : Fin 3 → Nat :=
  let c0_i32_137 : BitVec 32 := 0#32
  let v162 : Index := Scalar.indexCast c0_i32_137
  let c6_i32_138 : BitVec 32 := 6#32
  let v163 : Index := Scalar.indexCast c6_i32_138
  let c0_i32_111 : BitVec 32 := 0#32
  let c0_i32_31 : BitVec 32 := 0#32
  let c1_i32_32 : BitVec 32 := 1#32
  let arg14 : BitVec 32 := Scf.iv c0_i32_31 c1_i32_32 k0_t5
  let c1_i32_110 : BitVec 32 := 1#32
  let v110 : BitVec 32 := Scalar.muli arg14 c1_i32_110
  let v111 : BitVec 32 := Scalar.addi c0_i32_111 v110
  let c16_i32_136 : BitVec 32 := 16#32
  let v161 : BitVec 32 := Scalar.muli v111 c16_i32_136
  let v164 : Index := Scalar.indexCast v161
  ![0, 6, v164.toNat]

def k0_chk56 (v116 : IVec S16 32) (v166 : IVec S16 32) : Prop :=
  (∀ a x, ((![v166, v116] : Fin 2 → IVec S16 32) a x).toNat < S16x3969.size a)
theorem k0_idx56_inb : ∀ (v116 : IVec S16 32) (v166 : IVec S16 32) (k0_hw56 : k0_chk56 v116 v166), ∀ a x, ((![v166, v116] : Fin 2 → IVec S16 32) a x).toNat < S16x3969.size a := fun v116 v166 k0_hw56 => k0_hw56
def k0_off72 (k0_t5 : Fin k0_t5_loop.trips) : Fin 3 → Nat :=
  let c0_i32_140 : BitVec 32 := 0#32
  let v169 : Index := Scalar.indexCast c0_i32_140
  let c7_i32_141 : BitVec 32 := 7#32
  let v170 : Index := Scalar.indexCast c7_i32_141
  let c0_i32_111 : BitVec 32 := 0#32
  let c0_i32_31 : BitVec 32 := 0#32
  let c1_i32_32 : BitVec 32 := 1#32
  let arg14 : BitVec 32 := Scf.iv c0_i32_31 c1_i32_32 k0_t5
  let c1_i32_110 : BitVec 32 := 1#32
  let v110 : BitVec 32 := Scalar.muli arg14 c1_i32_110
  let v111 : BitVec 32 := Scalar.addi c0_i32_111 v110
  let c16_i32_139 : BitVec 32 := 16#32
  let v168 : BitVec 32 := Scalar.muli v111 c16_i32_139
  let v171 : Index := Scalar.indexCast v168
  ![0, 7, v171.toNat]

def k0_chk57 (v116 : IVec S16 32) (v173 : IVec S16 32) : Prop :=
  (∀ a x, ((![v173, v116] : Fin 2 → IVec S16 32) a x).toNat < S16x3969.size a)
theorem k0_idx57_inb : ∀ (v116 : IVec S16 32) (v173 : IVec S16 32) (k0_hw57 : k0_chk57 v116 v173), ∀ a x, ((![v173, v116] : Fin 2 → IVec S16 32) a x).toNat < S16x3969.size a := fun v116 v173 k0_hw57 => k0_hw57
def k0_off73 (k0_t5 : Fin k0_t5_loop.trips) : Fin 3 → Nat :=
  let c0_i32_143 : BitVec 32 := 0#32
  let v176 : Index := Scalar.indexCast c0_i32_143
  let c8_i32_144 : BitVec 32 := 8#32
  let v177 : Index := Scalar.indexCast c8_i32_144
  let c0_i32_111 : BitVec 32 := 0#32
  let c0_i32_31 : BitVec 32 := 0#32
  let c1_i32_32 : BitVec 32 := 1#32
  let arg14 : BitVec 32 := Scf.iv c0_i32_31 c1_i32_32 k0_t5
  let c1_i32_110 : BitVec 32 := 1#32
  let v110 : BitVec 32 := Scalar.muli arg14 c1_i32_110
  let v111 : BitVec 32 := Scalar.addi c0_i32_111 v110
  let c16_i32_142 : BitVec 32 := 16#32
  let v175 : BitVec 32 := Scalar.muli v111 c16_i32_142
  let v178 : Index := Scalar.indexCast v175
  ![0, 8, v178.toNat]

def k0_chk58 (v116 : IVec S16 32) (v180 : IVec S16 32) : Prop :=
  (∀ a x, ((![v180, v116] : Fin 2 → IVec S16 32) a x).toNat < S16x3969.size a)
theorem k0_idx58_inb : ∀ (v116 : IVec S16 32) (v180 : IVec S16 32) (k0_hw58 : k0_chk58 v116 v180), ∀ a x, ((![v180, v116] : Fin 2 → IVec S16 32) a x).toNat < S16x3969.size a := fun v116 v180 k0_hw58 => k0_hw58
def k0_off74 (k0_t5 : Fin k0_t5_loop.trips) : Fin 3 → Nat :=
  let c0_i32_146 : BitVec 32 := 0#32
  let v183 : Index := Scalar.indexCast c0_i32_146
  let c9_i32_147 : BitVec 32 := 9#32
  let v184 : Index := Scalar.indexCast c9_i32_147
  let c0_i32_111 : BitVec 32 := 0#32
  let c0_i32_31 : BitVec 32 := 0#32
  let c1_i32_32 : BitVec 32 := 1#32
  let arg14 : BitVec 32 := Scf.iv c0_i32_31 c1_i32_32 k0_t5
  let c1_i32_110 : BitVec 32 := 1#32
  let v110 : BitVec 32 := Scalar.muli arg14 c1_i32_110
  let v111 : BitVec 32 := Scalar.addi c0_i32_111 v110
  let c16_i32_145 : BitVec 32 := 16#32
  let v182 : BitVec 32 := Scalar.muli v111 c16_i32_145
  let v185 : Index := Scalar.indexCast v182
  ![0, 9, v185.toNat]

def k0_chk59 (v116 : IVec S16 32) (v187 : IVec S16 32) : Prop :=
  (∀ a x, ((![v187, v116] : Fin 2 → IVec S16 32) a x).toNat < S16x3969.size a)
theorem k0_idx59_inb : ∀ (v116 : IVec S16 32) (v187 : IVec S16 32) (k0_hw59 : k0_chk59 v116 v187), ∀ a x, ((![v187, v116] : Fin 2 → IVec S16 32) a x).toNat < S16x3969.size a := fun v116 v187 k0_hw59 => k0_hw59
def k0_off75 (k0_t5 : Fin k0_t5_loop.trips) : Fin 3 → Nat :=
  let c0_i32_150 : BitVec 32 := 0#32
  let v190 : Index := Scalar.indexCast c0_i32_150
  let c10_i32_151 : BitVec 32 := 10#32
  let v191 : Index := Scalar.indexCast c10_i32_151
  let c0_i32_111 : BitVec 32 := 0#32
  let c0_i32_31 : BitVec 32 := 0#32
  let c1_i32_32 : BitVec 32 := 1#32
  let arg14 : BitVec 32 := Scf.iv c0_i32_31 c1_i32_32 k0_t5
  let c1_i32_110 : BitVec 32 := 1#32
  let v110 : BitVec 32 := Scalar.muli arg14 c1_i32_110
  let v111 : BitVec 32 := Scalar.addi c0_i32_111 v110
  let c16_i32_149 : BitVec 32 := 16#32
  let v189 : BitVec 32 := Scalar.muli v111 c16_i32_149
  let v192 : Index := Scalar.indexCast v189
  ![0, 10, v192.toNat]

def k0_chk60 (v116 : IVec S16 32) (v194 : IVec S16 32) : Prop :=
  (∀ a x, ((![v194, v116] : Fin 2 → IVec S16 32) a x).toNat < S16x3969.size a)
theorem k0_idx60_inb : ∀ (v116 : IVec S16 32) (v194 : IVec S16 32) (k0_hw60 : k0_chk60 v116 v194), ∀ a x, ((![v194, v116] : Fin 2 → IVec S16 32) a x).toNat < S16x3969.size a := fun v116 v194 k0_hw60 => k0_hw60
def k0_off76 (k0_t5 : Fin k0_t5_loop.trips) : Fin 3 → Nat :=
  let c0_i32_153 : BitVec 32 := 0#32
  let v197 : Index := Scalar.indexCast c0_i32_153
  let c11_i32_154 : BitVec 32 := 11#32
  let v198 : Index := Scalar.indexCast c11_i32_154
  let c0_i32_111 : BitVec 32 := 0#32
  let c0_i32_31 : BitVec 32 := 0#32
  let c1_i32_32 : BitVec 32 := 1#32
  let arg14 : BitVec 32 := Scf.iv c0_i32_31 c1_i32_32 k0_t5
  let c1_i32_110 : BitVec 32 := 1#32
  let v110 : BitVec 32 := Scalar.muli arg14 c1_i32_110
  let v111 : BitVec 32 := Scalar.addi c0_i32_111 v110
  let c16_i32_152 : BitVec 32 := 16#32
  let v196 : BitVec 32 := Scalar.muli v111 c16_i32_152
  let v199 : Index := Scalar.indexCast v196
  ![0, 11, v199.toNat]

def k0_chk61 (v116 : IVec S16 32) (v201 : IVec S16 32) : Prop :=
  (∀ a x, ((![v201, v116] : Fin 2 → IVec S16 32) a x).toNat < S16x3969.size a)
theorem k0_idx61_inb : ∀ (v116 : IVec S16 32) (v201 : IVec S16 32) (k0_hw61 : k0_chk61 v116 v201), ∀ a x, ((![v201, v116] : Fin 2 → IVec S16 32) a x).toNat < S16x3969.size a := fun v116 v201 k0_hw61 => k0_hw61
def k0_off77 (k0_t5 : Fin k0_t5_loop.trips) : Fin 3 → Nat :=
  let c0_i32_156 : BitVec 32 := 0#32
  let v204 : Index := Scalar.indexCast c0_i32_156
  let c12_i32_157 : BitVec 32 := 12#32
  let v205 : Index := Scalar.indexCast c12_i32_157
  let c0_i32_111 : BitVec 32 := 0#32
  let c0_i32_31 : BitVec 32 := 0#32
  let c1_i32_32 : BitVec 32 := 1#32
  let arg14 : BitVec 32 := Scf.iv c0_i32_31 c1_i32_32 k0_t5
  let c1_i32_110 : BitVec 32 := 1#32
  let v110 : BitVec 32 := Scalar.muli arg14 c1_i32_110
  let v111 : BitVec 32 := Scalar.addi c0_i32_111 v110
  let c16_i32_155 : BitVec 32 := 16#32
  let v203 : BitVec 32 := Scalar.muli v111 c16_i32_155
  let v206 : Index := Scalar.indexCast v203
  ![0, 12, v206.toNat]

def k0_chk62 (v116 : IVec S16 32) (v208 : IVec S16 32) : Prop :=
  (∀ a x, ((![v208, v116] : Fin 2 → IVec S16 32) a x).toNat < S16x3969.size a)
theorem k0_idx62_inb : ∀ (v116 : IVec S16 32) (v208 : IVec S16 32) (k0_hw62 : k0_chk62 v116 v208), ∀ a x, ((![v208, v116] : Fin 2 → IVec S16 32) a x).toNat < S16x3969.size a := fun v116 v208 k0_hw62 => k0_hw62
def k0_off78 (k0_t5 : Fin k0_t5_loop.trips) : Fin 3 → Nat :=
  let c0_i32_159 : BitVec 32 := 0#32
  let v211 : Index := Scalar.indexCast c0_i32_159
  let c13_i32_160 : BitVec 32 := 13#32
  let v212 : Index := Scalar.indexCast c13_i32_160
  let c0_i32_111 : BitVec 32 := 0#32
  let c0_i32_31 : BitVec 32 := 0#32
  let c1_i32_32 : BitVec 32 := 1#32
  let arg14 : BitVec 32 := Scf.iv c0_i32_31 c1_i32_32 k0_t5
  let c1_i32_110 : BitVec 32 := 1#32
  let v110 : BitVec 32 := Scalar.muli arg14 c1_i32_110
  let v111 : BitVec 32 := Scalar.addi c0_i32_111 v110
  let c16_i32_158 : BitVec 32 := 16#32
  let v210 : BitVec 32 := Scalar.muli v111 c16_i32_158
  let v213 : Index := Scalar.indexCast v210
  ![0, 13, v213.toNat]

def k0_chk63 (v116 : IVec S16 32) (v215 : IVec S16 32) : Prop :=
  (∀ a x, ((![v215, v116] : Fin 2 → IVec S16 32) a x).toNat < S16x3969.size a)
theorem k0_idx63_inb : ∀ (v116 : IVec S16 32) (v215 : IVec S16 32) (k0_hw63 : k0_chk63 v116 v215), ∀ a x, ((![v215, v116] : Fin 2 → IVec S16 32) a x).toNat < S16x3969.size a := fun v116 v215 k0_hw63 => k0_hw63
def k0_off79 (k0_t5 : Fin k0_t5_loop.trips) : Fin 3 → Nat :=
  let c0_i32_162 : BitVec 32 := 0#32
  let v218 : Index := Scalar.indexCast c0_i32_162
  let c14_i32_163 : BitVec 32 := 14#32
  let v219 : Index := Scalar.indexCast c14_i32_163
  let c0_i32_111 : BitVec 32 := 0#32
  let c0_i32_31 : BitVec 32 := 0#32
  let c1_i32_32 : BitVec 32 := 1#32
  let arg14 : BitVec 32 := Scf.iv c0_i32_31 c1_i32_32 k0_t5
  let c1_i32_110 : BitVec 32 := 1#32
  let v110 : BitVec 32 := Scalar.muli arg14 c1_i32_110
  let v111 : BitVec 32 := Scalar.addi c0_i32_111 v110
  let c16_i32_161 : BitVec 32 := 16#32
  let v217 : BitVec 32 := Scalar.muli v111 c16_i32_161
  let v220 : Index := Scalar.indexCast v217
  ![0, 14, v220.toNat]

def k0_chk64 (v116 : IVec S16 32) (v222 : IVec S16 32) : Prop :=
  (∀ a x, ((![v222, v116] : Fin 2 → IVec S16 32) a x).toNat < S16x3969.size a)
theorem k0_idx64_inb : ∀ (v116 : IVec S16 32) (v222 : IVec S16 32) (k0_hw64 : k0_chk64 v116 v222), ∀ a x, ((![v222, v116] : Fin 2 → IVec S16 32) a x).toNat < S16x3969.size a := fun v116 v222 k0_hw64 => k0_hw64
def k0_off80 (k0_t5 : Fin k0_t5_loop.trips) : Fin 3 → Nat :=
  let c0_i32_165 : BitVec 32 := 0#32
  let v225 : Index := Scalar.indexCast c0_i32_165
  let c15_i32_166 : BitVec 32 := 15#32
  let v226 : Index := Scalar.indexCast c15_i32_166
  let c0_i32_111 : BitVec 32 := 0#32
  let c0_i32_31 : BitVec 32 := 0#32
  let c1_i32_32 : BitVec 32 := 1#32
  let arg14 : BitVec 32 := Scf.iv c0_i32_31 c1_i32_32 k0_t5
  let c1_i32_110 : BitVec 32 := 1#32
  let v110 : BitVec 32 := Scalar.muli arg14 c1_i32_110
  let v111 : BitVec 32 := Scalar.addi c0_i32_111 v110
  let c16_i32_164 : BitVec 32 := 16#32
  let v224 : BitVec 32 := Scalar.muli v111 c16_i32_164
  let v227 : Index := Scalar.indexCast v224
  ![0, 15, v227.toNat]
def k0_off81 (i : grid0.Coords) (c0_i32_15 : BitVec 32) : Fin 3 → Nat :=
  let c0_i32_37 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c30_i32 : BitVec 32 := 30#32
  let v21 : BitVec 32 := Scalar.addi v2 c30_i32
  let v22 : BitVec 32 := Scalar.addi v21 c0_i32_15
  let c0_i32_38 : BitVec 32 := 0#32
  ![0, v22.toNat, 0]
@[reducible] def k0_t6_loop : Scf.Loop 32 :=
  let c0_i32_61 : BitVec 32 := 0#32
  let c64_i32_62 : BitVec 32 := 64#32
  let v68 : BitVec 32 := Scalar.addi c0_i32_61 c64_i32_62
  let c1_i32_63 : BitVec 32 := 1#32
  ⟨c0_i32_61, v68, c1_i32_63⟩
def k0_off82 (k0_t6 : Fin k0_t6_loop.trips) : Fin 3 → Nat :=
  let c1_i32_112 : BitVec 32 := 1#32
  let v113 : Index := Scalar.indexCast c1_i32_112
  let c0_i32_113 : BitVec 32 := 0#32
  let v114 : Index := Scalar.indexCast c0_i32_113
  let c0_i32_111 : BitVec 32 := 0#32
  let c0_i32_61 : BitVec 32 := 0#32
  let c1_i32_63 : BitVec 32 := 1#32
  let arg14 : BitVec 32 := Scf.iv c0_i32_61 c1_i32_63 k0_t6
  let c1_i32_110 : BitVec 32 := 1#32
  let v110 : BitVec 32 := Scalar.muli arg14 c1_i32_110
  let v111 : BitVec 32 := Scalar.addi c0_i32_111 v110
  let c16_i32 : BitVec 32 := 16#32
  let v112 : BitVec 32 := Scalar.muli v111 c16_i32
  let v115 : Index := Scalar.indexCast v112
  ![1, 0, v115.toNat]

def k0_chk65 (v116 : IVec S16 32) (v117 : IVec S16 32) : Prop :=
  (∀ a x, ((![v117, v116] : Fin 2 → IVec S16 32) a x).toNat < S16x3969.size a)
theorem k0_idx65_inb : ∀ (v116 : IVec S16 32) (v117 : IVec S16 32) (k0_hw65 : k0_chk65 v116 v117), ∀ a x, ((![v117, v116] : Fin 2 → IVec S16 32) a x).toNat < S16x3969.size a := fun v116 v117 k0_hw65 => k0_hw65
def k0_off83 (k0_t6 : Fin k0_t6_loop.trips) : Fin 3 → Nat :=
  let c1_i32_116 : BitVec 32 := 1#32
  let v120 : Index := Scalar.indexCast c1_i32_116
  let c0_i32_117 : BitVec 32 := 0#32
  let v121 : Index := Scalar.indexCast c0_i32_117
  let c0_i32_111 : BitVec 32 := 0#32
  let c0_i32_61 : BitVec 32 := 0#32
  let c1_i32_63 : BitVec 32 := 1#32
  let arg14 : BitVec 32 := Scf.iv c0_i32_61 c1_i32_63 k0_t6
  let c1_i32_110 : BitVec 32 := 1#32
  let v110 : BitVec 32 := Scalar.muli arg14 c1_i32_110
  let v111 : BitVec 32 := Scalar.addi c0_i32_111 v110
  let c16_i32_115 : BitVec 32 := 16#32
  let v119 : BitVec 32 := Scalar.muli v111 c16_i32_115
  let v122 : Index := Scalar.indexCast v119
  ![1, 0, v122.toNat]

def k0_chk66 (v116 : IVec S16 32) (v124 : IVec S16 32) : Prop :=
  (∀ a x, ((![v124, v116] : Fin 2 → IVec S16 32) a x).toNat < S16x3969.size a)
theorem k0_idx66_inb : ∀ (v116 : IVec S16 32) (v124 : IVec S16 32) (k0_hw66 : k0_chk66 v116 v124), ∀ a x, ((![v124, v116] : Fin 2 → IVec S16 32) a x).toNat < S16x3969.size a := fun v116 v124 k0_hw66 => k0_hw66
def k0_off84 (k0_t6 : Fin k0_t6_loop.trips) : Fin 3 → Nat :=
  let c1_i32_120 : BitVec 32 := 1#32
  let v127 : Index := Scalar.indexCast c1_i32_120
  let c1_i32_121 : BitVec 32 := 1#32
  let v128 : Index := Scalar.indexCast c1_i32_121
  let c0_i32_111 : BitVec 32 := 0#32
  let c0_i32_61 : BitVec 32 := 0#32
  let c1_i32_63 : BitVec 32 := 1#32
  let arg14 : BitVec 32 := Scf.iv c0_i32_61 c1_i32_63 k0_t6
  let c1_i32_110 : BitVec 32 := 1#32
  let v110 : BitVec 32 := Scalar.muli arg14 c1_i32_110
  let v111 : BitVec 32 := Scalar.addi c0_i32_111 v110
  let c16_i32_119 : BitVec 32 := 16#32
  let v126 : BitVec 32 := Scalar.muli v111 c16_i32_119
  let v129 : Index := Scalar.indexCast v126
  ![1, 1, v129.toNat]

def k0_chk67 (v116 : IVec S16 32) (v131 : IVec S16 32) : Prop :=
  (∀ a x, ((![v131, v116] : Fin 2 → IVec S16 32) a x).toNat < S16x3969.size a)
theorem k0_idx67_inb : ∀ (v116 : IVec S16 32) (v131 : IVec S16 32) (k0_hw67 : k0_chk67 v116 v131), ∀ a x, ((![v131, v116] : Fin 2 → IVec S16 32) a x).toNat < S16x3969.size a := fun v116 v131 k0_hw67 => k0_hw67
def k0_off85 (k0_t6 : Fin k0_t6_loop.trips) : Fin 3 → Nat :=
  let c1_i32_124 : BitVec 32 := 1#32
  let v134 : Index := Scalar.indexCast c1_i32_124
  let c2_i32_125 : BitVec 32 := 2#32
  let v135 : Index := Scalar.indexCast c2_i32_125
  let c0_i32_111 : BitVec 32 := 0#32
  let c0_i32_61 : BitVec 32 := 0#32
  let c1_i32_63 : BitVec 32 := 1#32
  let arg14 : BitVec 32 := Scf.iv c0_i32_61 c1_i32_63 k0_t6
  let c1_i32_110 : BitVec 32 := 1#32
  let v110 : BitVec 32 := Scalar.muli arg14 c1_i32_110
  let v111 : BitVec 32 := Scalar.addi c0_i32_111 v110
  let c16_i32_123 : BitVec 32 := 16#32
  let v133 : BitVec 32 := Scalar.muli v111 c16_i32_123
  let v136 : Index := Scalar.indexCast v133
  ![1, 2, v136.toNat]

def k0_chk68 (v116 : IVec S16 32) (v138 : IVec S16 32) : Prop :=
  (∀ a x, ((![v138, v116] : Fin 2 → IVec S16 32) a x).toNat < S16x3969.size a)
theorem k0_idx68_inb : ∀ (v116 : IVec S16 32) (v138 : IVec S16 32) (k0_hw68 : k0_chk68 v116 v138), ∀ a x, ((![v138, v116] : Fin 2 → IVec S16 32) a x).toNat < S16x3969.size a := fun v116 v138 k0_hw68 => k0_hw68
def k0_off86 (k0_t6 : Fin k0_t6_loop.trips) : Fin 3 → Nat :=
  let c1_i32_128 : BitVec 32 := 1#32
  let v141 : Index := Scalar.indexCast c1_i32_128
  let c3_i32_129 : BitVec 32 := 3#32
  let v142 : Index := Scalar.indexCast c3_i32_129
  let c0_i32_111 : BitVec 32 := 0#32
  let c0_i32_61 : BitVec 32 := 0#32
  let c1_i32_63 : BitVec 32 := 1#32
  let arg14 : BitVec 32 := Scf.iv c0_i32_61 c1_i32_63 k0_t6
  let c1_i32_110 : BitVec 32 := 1#32
  let v110 : BitVec 32 := Scalar.muli arg14 c1_i32_110
  let v111 : BitVec 32 := Scalar.addi c0_i32_111 v110
  let c16_i32_127 : BitVec 32 := 16#32
  let v140 : BitVec 32 := Scalar.muli v111 c16_i32_127
  let v143 : Index := Scalar.indexCast v140
  ![1, 3, v143.toNat]

def k0_chk69 (v116 : IVec S16 32) (v145 : IVec S16 32) : Prop :=
  (∀ a x, ((![v145, v116] : Fin 2 → IVec S16 32) a x).toNat < S16x3969.size a)
theorem k0_idx69_inb : ∀ (v116 : IVec S16 32) (v145 : IVec S16 32) (k0_hw69 : k0_chk69 v116 v145), ∀ a x, ((![v145, v116] : Fin 2 → IVec S16 32) a x).toNat < S16x3969.size a := fun v116 v145 k0_hw69 => k0_hw69
def k0_off87 (k0_t6 : Fin k0_t6_loop.trips) : Fin 3 → Nat :=
  let c1_i32_131 : BitVec 32 := 1#32
  let v148 : Index := Scalar.indexCast c1_i32_131
  let c4_i32_132 : BitVec 32 := 4#32
  let v149 : Index := Scalar.indexCast c4_i32_132
  let c0_i32_111 : BitVec 32 := 0#32
  let c0_i32_61 : BitVec 32 := 0#32
  let c1_i32_63 : BitVec 32 := 1#32
  let arg14 : BitVec 32 := Scf.iv c0_i32_61 c1_i32_63 k0_t6
  let c1_i32_110 : BitVec 32 := 1#32
  let v110 : BitVec 32 := Scalar.muli arg14 c1_i32_110
  let v111 : BitVec 32 := Scalar.addi c0_i32_111 v110
  let c16_i32_130 : BitVec 32 := 16#32
  let v147 : BitVec 32 := Scalar.muli v111 c16_i32_130
  let v150 : Index := Scalar.indexCast v147
  ![1, 4, v150.toNat]

def k0_chk70 (v116 : IVec S16 32) (v152 : IVec S16 32) : Prop :=
  (∀ a x, ((![v152, v116] : Fin 2 → IVec S16 32) a x).toNat < S16x3969.size a)
theorem k0_idx70_inb : ∀ (v116 : IVec S16 32) (v152 : IVec S16 32) (k0_hw70 : k0_chk70 v116 v152), ∀ a x, ((![v152, v116] : Fin 2 → IVec S16 32) a x).toNat < S16x3969.size a := fun v116 v152 k0_hw70 => k0_hw70
def k0_off88 (k0_t6 : Fin k0_t6_loop.trips) : Fin 3 → Nat :=
  let c1_i32_134 : BitVec 32 := 1#32
  let v155 : Index := Scalar.indexCast c1_i32_134
  let c5_i32_135 : BitVec 32 := 5#32
  let v156 : Index := Scalar.indexCast c5_i32_135
  let c0_i32_111 : BitVec 32 := 0#32
  let c0_i32_61 : BitVec 32 := 0#32
  let c1_i32_63 : BitVec 32 := 1#32
  let arg14 : BitVec 32 := Scf.iv c0_i32_61 c1_i32_63 k0_t6
  let c1_i32_110 : BitVec 32 := 1#32
  let v110 : BitVec 32 := Scalar.muli arg14 c1_i32_110
  let v111 : BitVec 32 := Scalar.addi c0_i32_111 v110
  let c16_i32_133 : BitVec 32 := 16#32
  let v154 : BitVec 32 := Scalar.muli v111 c16_i32_133
  let v157 : Index := Scalar.indexCast v154
  ![1, 5, v157.toNat]

def k0_chk71 (v116 : IVec S16 32) (v159 : IVec S16 32) : Prop :=
  (∀ a x, ((![v159, v116] : Fin 2 → IVec S16 32) a x).toNat < S16x3969.size a)
theorem k0_idx71_inb : ∀ (v116 : IVec S16 32) (v159 : IVec S16 32) (k0_hw71 : k0_chk71 v116 v159), ∀ a x, ((![v159, v116] : Fin 2 → IVec S16 32) a x).toNat < S16x3969.size a := fun v116 v159 k0_hw71 => k0_hw71
def k0_off89 (k0_t6 : Fin k0_t6_loop.trips) : Fin 3 → Nat :=
  let c1_i32_137 : BitVec 32 := 1#32
  let v162 : Index := Scalar.indexCast c1_i32_137
  let c6_i32_138 : BitVec 32 := 6#32
  let v163 : Index := Scalar.indexCast c6_i32_138
  let c0_i32_111 : BitVec 32 := 0#32
  let c0_i32_61 : BitVec 32 := 0#32
  let c1_i32_63 : BitVec 32 := 1#32
  let arg14 : BitVec 32 := Scf.iv c0_i32_61 c1_i32_63 k0_t6
  let c1_i32_110 : BitVec 32 := 1#32
  let v110 : BitVec 32 := Scalar.muli arg14 c1_i32_110
  let v111 : BitVec 32 := Scalar.addi c0_i32_111 v110
  let c16_i32_136 : BitVec 32 := 16#32
  let v161 : BitVec 32 := Scalar.muli v111 c16_i32_136
  let v164 : Index := Scalar.indexCast v161
  ![1, 6, v164.toNat]

def k0_chk72 (v116 : IVec S16 32) (v166 : IVec S16 32) : Prop :=
  (∀ a x, ((![v166, v116] : Fin 2 → IVec S16 32) a x).toNat < S16x3969.size a)
theorem k0_idx72_inb : ∀ (v116 : IVec S16 32) (v166 : IVec S16 32) (k0_hw72 : k0_chk72 v116 v166), ∀ a x, ((![v166, v116] : Fin 2 → IVec S16 32) a x).toNat < S16x3969.size a := fun v116 v166 k0_hw72 => k0_hw72
def k0_off90 (k0_t6 : Fin k0_t6_loop.trips) : Fin 3 → Nat :=
  let c1_i32_140 : BitVec 32 := 1#32
  let v169 : Index := Scalar.indexCast c1_i32_140
  let c7_i32_141 : BitVec 32 := 7#32
  let v170 : Index := Scalar.indexCast c7_i32_141
  let c0_i32_111 : BitVec 32 := 0#32
  let c0_i32_61 : BitVec 32 := 0#32
  let c1_i32_63 : BitVec 32 := 1#32
  let arg14 : BitVec 32 := Scf.iv c0_i32_61 c1_i32_63 k0_t6
  let c1_i32_110 : BitVec 32 := 1#32
  let v110 : BitVec 32 := Scalar.muli arg14 c1_i32_110
  let v111 : BitVec 32 := Scalar.addi c0_i32_111 v110
  let c16_i32_139 : BitVec 32 := 16#32
  let v168 : BitVec 32 := Scalar.muli v111 c16_i32_139
  let v171 : Index := Scalar.indexCast v168
  ![1, 7, v171.toNat]

def k0_chk73 (v116 : IVec S16 32) (v173 : IVec S16 32) : Prop :=
  (∀ a x, ((![v173, v116] : Fin 2 → IVec S16 32) a x).toNat < S16x3969.size a)
theorem k0_idx73_inb : ∀ (v116 : IVec S16 32) (v173 : IVec S16 32) (k0_hw73 : k0_chk73 v116 v173), ∀ a x, ((![v173, v116] : Fin 2 → IVec S16 32) a x).toNat < S16x3969.size a := fun v116 v173 k0_hw73 => k0_hw73
def k0_off91 (k0_t6 : Fin k0_t6_loop.trips) : Fin 3 → Nat :=
  let c1_i32_143 : BitVec 32 := 1#32
  let v176 : Index := Scalar.indexCast c1_i32_143
  let c8_i32_144 : BitVec 32 := 8#32
  let v177 : Index := Scalar.indexCast c8_i32_144
  let c0_i32_111 : BitVec 32 := 0#32
  let c0_i32_61 : BitVec 32 := 0#32
  let c1_i32_63 : BitVec 32 := 1#32
  let arg14 : BitVec 32 := Scf.iv c0_i32_61 c1_i32_63 k0_t6
  let c1_i32_110 : BitVec 32 := 1#32
  let v110 : BitVec 32 := Scalar.muli arg14 c1_i32_110
  let v111 : BitVec 32 := Scalar.addi c0_i32_111 v110
  let c16_i32_142 : BitVec 32 := 16#32
  let v175 : BitVec 32 := Scalar.muli v111 c16_i32_142
  let v178 : Index := Scalar.indexCast v175
  ![1, 8, v178.toNat]

def k0_chk74 (v116 : IVec S16 32) (v180 : IVec S16 32) : Prop :=
  (∀ a x, ((![v180, v116] : Fin 2 → IVec S16 32) a x).toNat < S16x3969.size a)
theorem k0_idx74_inb : ∀ (v116 : IVec S16 32) (v180 : IVec S16 32) (k0_hw74 : k0_chk74 v116 v180), ∀ a x, ((![v180, v116] : Fin 2 → IVec S16 32) a x).toNat < S16x3969.size a := fun v116 v180 k0_hw74 => k0_hw74
def k0_off92 (k0_t6 : Fin k0_t6_loop.trips) : Fin 3 → Nat :=
  let c1_i32_146 : BitVec 32 := 1#32
  let v183 : Index := Scalar.indexCast c1_i32_146
  let c9_i32_147 : BitVec 32 := 9#32
  let v184 : Index := Scalar.indexCast c9_i32_147
  let c0_i32_111 : BitVec 32 := 0#32
  let c0_i32_61 : BitVec 32 := 0#32
  let c1_i32_63 : BitVec 32 := 1#32
  let arg14 : BitVec 32 := Scf.iv c0_i32_61 c1_i32_63 k0_t6
  let c1_i32_110 : BitVec 32 := 1#32
  let v110 : BitVec 32 := Scalar.muli arg14 c1_i32_110
  let v111 : BitVec 32 := Scalar.addi c0_i32_111 v110
  let c16_i32_145 : BitVec 32 := 16#32
  let v182 : BitVec 32 := Scalar.muli v111 c16_i32_145
  let v185 : Index := Scalar.indexCast v182
  ![1, 9, v185.toNat]

def k0_chk75 (v116 : IVec S16 32) (v187 : IVec S16 32) : Prop :=
  (∀ a x, ((![v187, v116] : Fin 2 → IVec S16 32) a x).toNat < S16x3969.size a)
theorem k0_idx75_inb : ∀ (v116 : IVec S16 32) (v187 : IVec S16 32) (k0_hw75 : k0_chk75 v116 v187), ∀ a x, ((![v187, v116] : Fin 2 → IVec S16 32) a x).toNat < S16x3969.size a := fun v116 v187 k0_hw75 => k0_hw75
def k0_off93 (k0_t6 : Fin k0_t6_loop.trips) : Fin 3 → Nat :=
  let c1_i32_150 : BitVec 32 := 1#32
  let v190 : Index := Scalar.indexCast c1_i32_150
  let c10_i32_151 : BitVec 32 := 10#32
  let v191 : Index := Scalar.indexCast c10_i32_151
  let c0_i32_111 : BitVec 32 := 0#32
  let c0_i32_61 : BitVec 32 := 0#32
  let c1_i32_63 : BitVec 32 := 1#32
  let arg14 : BitVec 32 := Scf.iv c0_i32_61 c1_i32_63 k0_t6
  let c1_i32_110 : BitVec 32 := 1#32
  let v110 : BitVec 32 := Scalar.muli arg14 c1_i32_110
  let v111 : BitVec 32 := Scalar.addi c0_i32_111 v110
  let c16_i32_149 : BitVec 32 := 16#32
  let v189 : BitVec 32 := Scalar.muli v111 c16_i32_149
  let v192 : Index := Scalar.indexCast v189
  ![1, 10, v192.toNat]

def k0_chk76 (v116 : IVec S16 32) (v194 : IVec S16 32) : Prop :=
  (∀ a x, ((![v194, v116] : Fin 2 → IVec S16 32) a x).toNat < S16x3969.size a)
theorem k0_idx76_inb : ∀ (v116 : IVec S16 32) (v194 : IVec S16 32) (k0_hw76 : k0_chk76 v116 v194), ∀ a x, ((![v194, v116] : Fin 2 → IVec S16 32) a x).toNat < S16x3969.size a := fun v116 v194 k0_hw76 => k0_hw76
def k0_off94 (k0_t6 : Fin k0_t6_loop.trips) : Fin 3 → Nat :=
  let c1_i32_153 : BitVec 32 := 1#32
  let v197 : Index := Scalar.indexCast c1_i32_153
  let c11_i32_154 : BitVec 32 := 11#32
  let v198 : Index := Scalar.indexCast c11_i32_154
  let c0_i32_111 : BitVec 32 := 0#32
  let c0_i32_61 : BitVec 32 := 0#32
  let c1_i32_63 : BitVec 32 := 1#32
  let arg14 : BitVec 32 := Scf.iv c0_i32_61 c1_i32_63 k0_t6
  let c1_i32_110 : BitVec 32 := 1#32
  let v110 : BitVec 32 := Scalar.muli arg14 c1_i32_110
  let v111 : BitVec 32 := Scalar.addi c0_i32_111 v110
  let c16_i32_152 : BitVec 32 := 16#32
  let v196 : BitVec 32 := Scalar.muli v111 c16_i32_152
  let v199 : Index := Scalar.indexCast v196
  ![1, 11, v199.toNat]

def k0_chk77 (v116 : IVec S16 32) (v201 : IVec S16 32) : Prop :=
  (∀ a x, ((![v201, v116] : Fin 2 → IVec S16 32) a x).toNat < S16x3969.size a)
theorem k0_idx77_inb : ∀ (v116 : IVec S16 32) (v201 : IVec S16 32) (k0_hw77 : k0_chk77 v116 v201), ∀ a x, ((![v201, v116] : Fin 2 → IVec S16 32) a x).toNat < S16x3969.size a := fun v116 v201 k0_hw77 => k0_hw77
def k0_off95 (k0_t6 : Fin k0_t6_loop.trips) : Fin 3 → Nat :=
  let c1_i32_156 : BitVec 32 := 1#32
  let v204 : Index := Scalar.indexCast c1_i32_156
  let c12_i32_157 : BitVec 32 := 12#32
  let v205 : Index := Scalar.indexCast c12_i32_157
  let c0_i32_111 : BitVec 32 := 0#32
  let c0_i32_61 : BitVec 32 := 0#32
  let c1_i32_63 : BitVec 32 := 1#32
  let arg14 : BitVec 32 := Scf.iv c0_i32_61 c1_i32_63 k0_t6
  let c1_i32_110 : BitVec 32 := 1#32
  let v110 : BitVec 32 := Scalar.muli arg14 c1_i32_110
  let v111 : BitVec 32 := Scalar.addi c0_i32_111 v110
  let c16_i32_155 : BitVec 32 := 16#32
  let v203 : BitVec 32 := Scalar.muli v111 c16_i32_155
  let v206 : Index := Scalar.indexCast v203
  ![1, 12, v206.toNat]

def k0_chk78 (v116 : IVec S16 32) (v208 : IVec S16 32) : Prop :=
  (∀ a x, ((![v208, v116] : Fin 2 → IVec S16 32) a x).toNat < S16x3969.size a)
theorem k0_idx78_inb : ∀ (v116 : IVec S16 32) (v208 : IVec S16 32) (k0_hw78 : k0_chk78 v116 v208), ∀ a x, ((![v208, v116] : Fin 2 → IVec S16 32) a x).toNat < S16x3969.size a := fun v116 v208 k0_hw78 => k0_hw78
def k0_off96 (k0_t6 : Fin k0_t6_loop.trips) : Fin 3 → Nat :=
  let c1_i32_159 : BitVec 32 := 1#32
  let v211 : Index := Scalar.indexCast c1_i32_159
  let c13_i32_160 : BitVec 32 := 13#32
  let v212 : Index := Scalar.indexCast c13_i32_160
  let c0_i32_111 : BitVec 32 := 0#32
  let c0_i32_61 : BitVec 32 := 0#32
  let c1_i32_63 : BitVec 32 := 1#32
  let arg14 : BitVec 32 := Scf.iv c0_i32_61 c1_i32_63 k0_t6
  let c1_i32_110 : BitVec 32 := 1#32
  let v110 : BitVec 32 := Scalar.muli arg14 c1_i32_110
  let v111 : BitVec 32 := Scalar.addi c0_i32_111 v110
  let c16_i32_158 : BitVec 32 := 16#32
  let v210 : BitVec 32 := Scalar.muli v111 c16_i32_158
  let v213 : Index := Scalar.indexCast v210
  ![1, 13, v213.toNat]

def k0_chk79 (v116 : IVec S16 32) (v215 : IVec S16 32) : Prop :=
  (∀ a x, ((![v215, v116] : Fin 2 → IVec S16 32) a x).toNat < S16x3969.size a)
theorem k0_idx79_inb : ∀ (v116 : IVec S16 32) (v215 : IVec S16 32) (k0_hw79 : k0_chk79 v116 v215), ∀ a x, ((![v215, v116] : Fin 2 → IVec S16 32) a x).toNat < S16x3969.size a := fun v116 v215 k0_hw79 => k0_hw79
def k0_off97 (k0_t6 : Fin k0_t6_loop.trips) : Fin 3 → Nat :=
  let c1_i32_162 : BitVec 32 := 1#32
  let v218 : Index := Scalar.indexCast c1_i32_162
  let c14_i32_163 : BitVec 32 := 14#32
  let v219 : Index := Scalar.indexCast c14_i32_163
  let c0_i32_111 : BitVec 32 := 0#32
  let c0_i32_61 : BitVec 32 := 0#32
  let c1_i32_63 : BitVec 32 := 1#32
  let arg14 : BitVec 32 := Scf.iv c0_i32_61 c1_i32_63 k0_t6
  let c1_i32_110 : BitVec 32 := 1#32
  let v110 : BitVec 32 := Scalar.muli arg14 c1_i32_110
  let v111 : BitVec 32 := Scalar.addi c0_i32_111 v110
  let c16_i32_161 : BitVec 32 := 16#32
  let v217 : BitVec 32 := Scalar.muli v111 c16_i32_161
  let v220 : Index := Scalar.indexCast v217
  ![1, 14, v220.toNat]

def k0_chk80 (v116 : IVec S16 32) (v222 : IVec S16 32) : Prop :=
  (∀ a x, ((![v222, v116] : Fin 2 → IVec S16 32) a x).toNat < S16x3969.size a)
theorem k0_idx80_inb : ∀ (v116 : IVec S16 32) (v222 : IVec S16 32) (k0_hw80 : k0_chk80 v116 v222), ∀ a x, ((![v222, v116] : Fin 2 → IVec S16 32) a x).toNat < S16x3969.size a := fun v116 v222 k0_hw80 => k0_hw80
def k0_off98 (k0_t6 : Fin k0_t6_loop.trips) : Fin 3 → Nat :=
  let c1_i32_165 : BitVec 32 := 1#32
  let v225 : Index := Scalar.indexCast c1_i32_165
  let c15_i32_166 : BitVec 32 := 15#32
  let v226 : Index := Scalar.indexCast c15_i32_166
  let c0_i32_111 : BitVec 32 := 0#32
  let c0_i32_61 : BitVec 32 := 0#32
  let c1_i32_63 : BitVec 32 := 1#32
  let arg14 : BitVec 32 := Scf.iv c0_i32_61 c1_i32_63 k0_t6
  let c1_i32_110 : BitVec 32 := 1#32
  let v110 : BitVec 32 := Scalar.muli arg14 c1_i32_110
  let v111 : BitVec 32 := Scalar.addi c0_i32_111 v110
  let c16_i32_164 : BitVec 32 := 16#32
  let v224 : BitVec 32 := Scalar.muli v111 c16_i32_164
  let v227 : Index := Scalar.indexCast v224
  ![1, 15, v227.toNat]
def k0_off99 (i : grid0.Coords) (c0_i32_76 : BitVec 32) : Fin 3 → Nat :=
  let c0_i32_80 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c32_i32_74 : BitVec 32 := 32#32
  let v77 : BitVec 32 := Scalar.addi v2 c32_i32_74
  let c3_i32_75 : BitVec 32 := 3#32
  let v78 : BitVec 32 := Scalar.subi v77 c3_i32_75
  let v79 : BitVec 32 := Scalar.addi v78 c0_i32_76
  let c0_i32_81 : BitVec 32 := 0#32
  ![0, v79.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x3969 : Shape := ⟨2, ![16, 3969]⟩
abbrev S1024x1024 : Shape := ⟨2, ![1024, 1024]⟩
abbrev S1048576 : Shape := ⟨1, ![1048576]⟩
abbrev S_ : Shape := ⟨0, ![]⟩
abbrev S1048576x1 : Shape := ⟨2, ![1048576, 1]⟩
abbrev S1 : Shape := ⟨1, ![1]⟩
abbrev S1x1 : Shape := ⟨2, ![1, 1]⟩
abbrev S16x1048576 : Shape := ⟨2, ![16, 1048576]⟩
abbrev S16x1024x1024 : Shape := ⟨3, ![16, 1024, 1024]⟩

abbrev nBuf : Space → Nat
  | .hbm => 27
  | .vmem => 0
  | .smem => 0
  | _ => 0

abbrev bufTy : (tb : Table) → Fin (tcTables nBuf tb) → BufTy
  | .hbm, ⟨0, _⟩ => ⟨S16x3969, .f32⟩
  | .hbm, ⟨1, _⟩ => ⟨S1024x1024, .i32⟩
  | .hbm, ⟨2, _⟩ => ⟨S1048576, .i32⟩
  | .hbm, ⟨3, _⟩ => ⟨S_, .i32⟩
  | .hbm, ⟨4, _⟩ => ⟨S1048576, .i32⟩
  | .hbm, ⟨5, _⟩ => ⟨S1048576, .i1⟩
  | .hbm, ⟨6, _⟩ => ⟨S_, .i32⟩
  | .hbm, ⟨7, _⟩ => ⟨S1048576, .i32⟩
  | .hbm, ⟨8, _⟩ => ⟨S1048576, .i32⟩
  | .hbm, ⟨9, _⟩ => ⟨S1048576, .i32⟩
  | .hbm, ⟨10, _⟩ => ⟨S1048576x1, .i32⟩
  | .hbm, ⟨11, _⟩ => ⟨S1, .i32⟩
  | .hbm, ⟨12, _⟩ => ⟨S_, .i32⟩
  | .hbm, ⟨13, _⟩ => ⟨S1048576x1, .i32⟩
  | .hbm, ⟨14, _⟩ => ⟨S1048576x1, .i1⟩
  | .hbm, ⟨15, _⟩ => ⟨S1x1, .i32⟩
  | .hbm, ⟨16, _⟩ => ⟨S1048576x1, .i32⟩
  | .hbm, ⟨17, _⟩ => ⟨S1048576x1, .i1⟩
  | .hbm, ⟨18, _⟩ => ⟨S1048576x1, .i1⟩
  | .hbm, ⟨19, _⟩ => ⟨S_, .i1⟩
  | .hbm, ⟨20, _⟩ => ⟨S1048576, .i1⟩
  | .hbm, ⟨21, _⟩ => ⟨S16x1048576, .f32⟩
  | .hbm, ⟨22, _⟩ => ⟨S16x1048576, .i1⟩
  | .hbm, ⟨23, _⟩ => ⟨S_, .f32⟩
  | .hbm, ⟨24, _⟩ => ⟨S16x1048576, .f32⟩
  | .hbm, ⟨25, _⟩ => ⟨S16x1048576, .f32⟩
  | .hbm, ⟨26, _⟩ => ⟨S16x1024x1024, .f32⟩
  | _, _ => ⟨S16x3969, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v1 : Ref sig .tc := ⟨.hbm, 25, rfl⟩
abbrev main_v2 : Ref sig .tc := ⟨.hbm, 26, rfl⟩

abbrev nD : Nat := 1
abbrev τ : Topo := Topo.v7x

variable {F : FTy → Type} [FloatOps F]
-- ==== Proof.Setup.lean ====
/-
  The set-up of the proof: the launch's configuration and resource algebra, the kernel's buffers by the names the
  program gives them, and the index maps of the slices it takes: which element of a buffer each index of a slice is.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Transfers
public import Idealize.ShloMosaic.Lib.ValueIdx
public import Idealize.ShloMosaic.Lib.ValueLayout
public import Idealize.ShloMosaic.Lib.Tactic
public import proofs.«01_k».proof.Proof.Gen.KernelIdeal
public import proofs.«01_k».proof.Proof.Gen.KernelIdeal.Skeleton

@[expose] public section

noncomputable section

namespace Cert.Proof.Bias

open Cert.KernelIdeal Cert.KernelIdeal.Gen
open Idealize.ShloMosaic
open Idealize.ShloMosaic.SparseCore (S V T)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.SparseCore.Cfg (HIx)

variable {F : FTy → Type}

/-! ## The launch's configuration -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch asks of the program's configuration, read off it. -/
theorem facts : (K (F := F)).Facts :=
  ⟨show sc_start ≠ sc_taskDone by decide,
    show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra: the handshakes' rounds and the transfers' counters -/

abbrev UH : Type := URounds (GSem nD τ sig) ℕ
abbrev UU : Type := UH × Counters

local notation "𝕄" => MT nD τ sig (HIx 1) (Elt F) ℕ UU ℕ

def EH : Emb UH (MT nD τ sig (HIx 1) (Elt F) ℕ UU ℕ) :=
  (Emb.inl : Emb UH UU).trans (uEmb (nD := nD) (sig := sig) (Ix := HIx 1) (Val := Elt F) (Name := ℕ) (U := UU) (Lvl := ℕ)).toEmb
instance EH_landsIn : (EH : Emb UH 𝕄).LandsIn (upEmb : UEmb _ 𝕄) := by unfold EH; infer_instance

/-- The counters' part of the algebra. -/
abbrev EC : UEmb Counters (MT nD τ sig (HIx 1) (Elt F) ℕ UU ℕ) := countersEmb

/-! ## The buffers -/

/-- The table, the index matrix and the result, as a vector subcore names them; a subcore's scratch: its copy of the
    table, three rows of indices, three blocks of gathered rows. -/
abbrev tV : Memref sig .scVector .hbm S16x3969 .f32 := Memref.whole main_arg0_scv
abbrev xV : Memref sig .scVector .hbm S1024x1024 .i32 := Memref.whole main_arg1_scv
abbrev oV : Memref sig .scVector .hbm S16x1024x1024 .f32 := Memref.whole main_v0_scv
abbrev sT : Memref sig .scVector .vmem S16x3969 .f32 := Memref.whole cc0_scratch0
abbrev sI : Memref sig .scVector .vmem S3x1x1024 .i32 := Memref.whole cc0_scratch1
abbrev sO : Memref sig .scVector .vmem S3x16x1024 .f32 := Memref.whole cc0_scratch2

abbrev tLoc (d : Dev nD) : Loc nD τ sig := (SparseCore.T d).loc main_arg0
abbrev xLoc (d : Dev nD) : Loc nD τ sig := (SparseCore.T d).loc main_arg1
abbrev oLoc (d : Dev nD) : Loc nD τ sig := (SparseCore.T d).loc main_v0

abbrev cV (L : grid0.Coords) : Fin τ.nSC := (L 0).castLE hcore0
abbrev jV (L : grid0.Coords) : Fin τ.nSub := (L 1).castLE hsub0
/-- The vector subcore at grid point `L` of device `d`. -/
abbrev thr (d : Dev nD) (L : grid0.Coords) : Thread nD τ := V d (cV L) (jV L)

/-! ## The slices -/

/-- One row of the index matrix, at an offset. -/
abbrev xAt (off : Fin 2 → ℕ) (h : ∀ a, off a + S1x1024.size a ≤ S1024x1024.size a) : Memref sig .scVector .hbm S1024 .i32 :=
  (xV.slice (Rect.unit (s := S1024x1024) off S1x1024.size h) (fun _ => rfl)).squeeze S1024 squeezes_S1x1024_S1024
/-- One of the three index buffers. -/
abbrev iAt (off : Fin 3 → ℕ) (h : ∀ a, off a + S1x1x1024.size a ≤ S3x1x1024.size a) : Memref sig .scVector .vmem S1024 .i32 :=
  (sI.slice (Rect.unit (s := S3x1x1024) off S1x1x1024.size h) (fun _ => rfl)).squeeze S1024 squeezes_S1x1x1024_S1024
/-- One row of every head of the result. -/
abbrev oAt (off : Fin 3 → ℕ) (h : ∀ a, off a + S16x1x1024.size a ≤ S16x1024x1024.size a) : Memref sig .scVector .hbm S16x1024 .f32 :=
  (oV.slice (Rect.unit (s := S16x1024x1024) off S16x1x1024.size h) (fun _ => rfl)).squeeze S16x1024 squeezes_S16x1x1024_S16x1024
/-- One of the three output buffers. -/
abbrev bAt (off : Fin 3 → ℕ) (h : ∀ a, off a + S1x16x1024.size a ≤ S3x16x1024.size a) : Memref sig .scVector .vmem S16x1024 .f32 :=
  (sO.slice (Rect.unit (s := S3x16x1024) off S1x16x1024.size h) (fun _ => rfl)).squeeze S16x1024 squeezes_S1x16x1024_S16x1024

/-- The elements of each slice. -/
def xSet (r : Fin 1024) : Finset S1024x1024.Idx := Finset.univ.filter fun i => (i 0).val = r.val
def iSet (b : Fin 3) : Finset S3x1x1024.Idx := Finset.univ.filter fun i => (i 0).val = b.val
def oSet (r : Fin 1024) : Finset S16x1024x1024.Idx := Finset.univ.filter fun i => (i 1).val = r.val
def bSet (b : Fin 3) : Finset S3x16x1024.Idx := Finset.univ.filter fun i => (i 0).val = b.val

theorem mem_xSet {r : Fin 1024} {i : S1024x1024.Idx} : i ∈ xSet r ↔ i 0 = r :=
  Finset.mem_filter.trans ⟨fun h => Fin.ext h.2, fun h => ⟨Finset.mem_univ _, congrArg Fin.val h⟩⟩
theorem mem_iSet {b : Fin 3} {i : S3x1x1024.Idx} : i ∈ iSet b ↔ i 0 = b :=
  Finset.mem_filter.trans ⟨fun h => Fin.ext h.2, fun h => ⟨Finset.mem_univ _, congrArg Fin.val h⟩⟩
theorem mem_oSet {r : Fin 1024} {i : S16x1024x1024.Idx} : i ∈ oSet r ↔ i 1 = r :=
  Finset.mem_filter.trans ⟨fun h => Fin.ext h.2, fun h => ⟨Finset.mem_univ _, congrArg Fin.val h⟩⟩
theorem mem_bSet {b : Fin 3} {i : S3x16x1024.Idx} : i ∈ bSet b ↔ i 0 = b :=
  Finset.mem_filter.trans ⟨fun h => Fin.ext h.2, fun h => ⟨Finset.mem_univ _, congrArg Fin.val h⟩⟩

theorem emb_xAt {off : Fin 2 → ℕ} {h} (r : Fin 1024) (hoff : off = ![r.val, 0]) (x : Fin 1024) :
    (xAt off h).view.emb (ix1 x) = ix2 r x := by
  subst hoff
  show (Rect.unit (s := S1024x1024) ![r.val, 0] S1x1024.size h).emb (Shape.reshapeEquiv squeezes_S1x1024_S1024.numel_eq (ix1 x)) = _
  rw [Shape.reshapeEquiv_eq_of_rowMajor (y := ix2 (⟨0, Nat.one_pos⟩ : Fin 1) x) _ (by
    rw [Shape.rowMajor_val_two, Shape.rowMajor_val_one]; show 0 * 1024 + x.val = x.val; omega)]
  funext a; apply Fin.ext
  match a with
  | ⟨0, _⟩ => show r.val + 1 * 0 = r.val; omega
  | ⟨1, _⟩ => show 0 + 1 * x.val = x.val; omega

theorem emb_iAt {off : Fin 3 → ℕ} {h} (b : Fin 3) (hoff : off = ![b.val, 0, 0]) (x : Fin 1024) :
    (iAt off h).view.emb (ix1 x) = ix3 b (0 : Fin 1) x := by
  subst hoff
  show (Rect.unit (s := S3x1x1024) ![b.val, 0, 0] S1x1x1024.size h).emb (Shape.reshapeEquiv squeezes_S1x1x1024_S1024.numel_eq (ix1 x)) = _
  rw [Shape.reshapeEquiv_eq_of_rowMajor (y := ix3 (⟨0, Nat.one_pos⟩ : Fin 1) (⟨0, Nat.one_pos⟩ : Fin 1) x) _ (by
    rw [Shape.rowMajor_val_three, Shape.rowMajor_val_one]; show (0 * 1 + 0) * 1024 + x.val = x.val; omega)]
  funext a; apply Fin.ext
  match a with
  | ⟨0, _⟩ => show b.val + 1 * 0 = b.val; omega
  | ⟨1, _⟩ => show 0 + 1 * 0 = 0; omega
  | ⟨2, _⟩ => show 0 + 1 * x.val = x.val; omega

theorem emb_oAt {off : Fin 3 → ℕ} {h} (r : Fin 1024) (hoff : off = ![0, r.val, 0]) (y : Fin 16) (x : Fin 1024) :
    (oAt off h).view.emb (ix2 y x) = ix3 y r x := by
  subst hoff
  show (Rect.unit (s := S16x1024x1024) ![0, r.val, 0] S16x1x1024.size h).emb (Shape.reshapeEquiv squeezes_S16x1x1024_S16x1024.numel_eq (ix2 y x)) = _
  rw [Shape.reshapeEquiv_eq_of_rowMajor (y := ix3 y (⟨0, Nat.one_pos⟩ : Fin 1) x) _ (by
    rw [Shape.rowMajor_val_three, Shape.rowMajor_val_two]; show (y.val * 1 + 0) * 1024 + x.val = y.val * 1024 + x.val; omega)]
  funext a; apply Fin.ext
  match a with
  | ⟨0, _⟩ => show 0 + 1 * y.val = y.val; omega
  | ⟨1, _⟩ => show r.val + 1 * 0 = r.val; omega
  | ⟨2, _⟩ => show 0 + 1 * x.val = x.val; omega

theorem emb_bAt {off : Fin 3 → ℕ} {h} (b : Fin 3) (hoff : off = ![b.val, 0, 0]) (y : Fin 16) (x : Fin 1024) :
    (bAt off h).view.emb (ix2 y x) = ix3 b y x := by
  subst hoff
  show (Rect.unit (s := S3x16x1024) ![b.val, 0, 0] S1x16x1024.size h).emb (Shape.reshapeEquiv squeezes_S1x16x1024_S16x1024.numel_eq (ix2 y x)) = _
  rw [Shape.reshapeEquiv_eq_of_rowMajor (y := ix3 (⟨0, Nat.one_pos⟩ : Fin 1) y x) _ (by
    rw [Shape.rowMajor_val_three, Shape.rowMajor_val_two]; show (0 * 16 + y.val) * 1024 + x.val = y.val * 1024 + x.val; omega)]
  funext a; apply Fin.ext
  match a with
  | ⟨0, _⟩ => show b.val + 1 * 0 = b.val; omega
  | ⟨1, _⟩ => show 0 + 1 * y.val = y.val; omega
  | ⟨2, _⟩ => show 0 + 1 * x.val = x.val; omega

theorem set_xAt {off : Fin 2 → ℕ} {h} (r : Fin 1024) (hoff : off = ![r.val, 0]) : (xAt off h).view.set = xSet r := by
  refine Finset.ext fun (i : S1024x1024.Idx) => ?_
  rw [mem_xSet]
  constructor
  · intro hi
    obtain ⟨x, -, hx⟩ := Finset.mem_map.mp hi
    have e : (xAt off h).view.emb x = _ := (congrArg (xAt off h).view.emb (eq_ix1 x)).trans (emb_xAt r hoff (x 0))
    rw [← hx, e]
  · intro hi
    have e : (xAt off h).view.emb (ix1 (n := 1024) (i 1)) = i := (emb_xAt r hoff (i 1)).trans (by rw [← hi]; exact (eq_ix2 i).symm)
    rw [← e]; exact View.emb_mem_set _ _

theorem set_iAt {off : Fin 3 → ℕ} {h} (b : Fin 3) (hoff : off = ![b.val, 0, 0]) : (iAt off h).view.set = iSet b := by
  refine Finset.ext fun (i : S3x1x1024.Idx) => ?_
  rw [mem_iSet]
  constructor
  · intro hi
    obtain ⟨x, -, hx⟩ := Finset.mem_map.mp hi
    have e : (iAt off h).view.emb x = _ := (congrArg (iAt off h).view.emb (eq_ix1 x)).trans (emb_iAt b hoff (x 0))
    rw [← hx, e]
  · intro hi
    have e : (iAt off h).view.emb (ix1 (n := 1024) (i 2)) = i := (emb_iAt b hoff (i 2)).trans (by rw [← hi]; exact (congrArg (fun z : Fin 1 => ix3 (i 0) z (i 2)) (Subsingleton.elim (0 : Fin 1) (i 1))).trans (eq_ix3 i).symm)
    rw [← e]; exact View.emb_mem_set _ _

theorem set_oAt {off : Fin 3 → ℕ} {h} (r : Fin 1024) (hoff : off = ![0, r.val, 0]) : (oAt off h).view.set = oSet r := by
  refine Finset.ext fun (i : S16x1024x1024.Idx) => ?_
  rw [mem_oSet]
  constructor
  · intro hi
    obtain ⟨x, -, hx⟩ := Finset.mem_map.mp hi
    have e : (oAt off h).view.emb x = _ := (congrArg (oAt off h).view.emb (eq_ix2 x)).trans (emb_oAt r hoff (x 0) (x 1))
    rw [← hx, e]
  · intro hi
    have e : (oAt off h).view.emb (ix2 (n0 := 16) (n1 := 1024) (i 0) (i 2)) = i := (emb_oAt r hoff (i 0) (i 2)).trans (by rw [← hi]; exact (eq_ix3 i).symm)
    rw [← e]; exact View.emb_mem_set _ _

theorem set_bAt {off : Fin 3 → ℕ} {h} (b : Fin 3) (hoff : off = ![b.val, 0, 0]) : (bAt off h).view.set = bSet b := by
  refine Finset.ext fun (i : S3x16x1024.Idx) => ?_
  rw [mem_bSet]
  constructor
  · intro hi
    obtain ⟨x, -, hx⟩ := Finset.mem_map.mp hi
    have e : (bAt off h).view.emb x = _ := (congrArg (bAt off h).view.emb (eq_ix2 x)).trans (emb_bAt b hoff (x 0) (x 1))
    rw [← hx, e]
  · intro hi
    have e : (bAt off h).view.emb (ix2 (n0 := 16) (n1 := 1024) (i 1) (i 2)) = i := (emb_bAt b hoff (i 1) (i 2)).trans (by rw [← hi]; exact (eq_ix3 i).symm)
    rw [← e]; exact View.emb_mem_set _ _

/-- Sixteen lanes of one row of an index buffer, and of an output buffer. -/
theorem emb_iLanes {off : Fin 3 → ℕ} {h : ∀ a, off a + S1x1x16.size a ≤ S3x1x1024.size a} (b : Fin 3) (j : Fin 64)
    (hoff : off = ![b.val, 0, 16 * j.val]) (l : Fin 16) :
    (Rect.unit (s := S3x1x1024) off S1x1x16.size h).toLoadRect.idx (ix3 (0 : Fin 1) (0 : Fin 1) l)
      = ix3 b (0 : Fin 1) (⟨16 * j.val + l.val, by omega⟩ : Fin 1024) := by
  subst hoff
  funext a; apply Fin.ext
  rw [LoadRect.idx_apply]
  match a with
  | ⟨0, _⟩ => show b.val + 1 * 0 = b.val; omega
  | ⟨1, _⟩ => show 0 + 1 * 0 = 0; omega
  | ⟨2, _⟩ => show 16 * j.val + 1 * l.val = 16 * j.val + l.val; omega

theorem emb_oLanes {off : Fin 3 → ℕ} {h : ∀ a, off a + S1x1x16.size a ≤ S3x16x1024.size a} (b : Fin 3) (y : Fin 16) (j : Fin 64)
    (hoff : off = ![b.val, y.val, 16 * j.val]) (l : Fin 16) :
    (sO.access (Rect.unit (s := S3x16x1024) off S1x1x16.size h)).emb (ix3 (0 : Fin 1) (0 : Fin 1) l)
      = ix3 b y (⟨16 * j.val + l.val, by omega⟩ : Fin 1024) := by
  subst hoff
  funext a; apply Fin.ext
  match a with
  | ⟨0, _⟩ => show b.val + 1 * 0 = b.val; omega
  | ⟨1, _⟩ => show y.val + 1 * 0 = y.val; omega
  | ⟨2, _⟩ => show 16 * j.val + 1 * l.val = 16 * j.val + l.val; omega

/-- Sixteen lanes' shape, put back into three axes. -/
theorem cast16_up {α : Type} (v : S16.Idx → α) (h) (l : Fin 16) :
    shapeCast S1x1x16 v h (ix3 (0 : Fin 1) (0 : Fin 1) l) = v (ix1 l) :=
  shapeCast_apply v h _ _ (by
    rw [Shape.rowMajor_val_three, Shape.rowMajor_val_one]; show l.val = (0 * 1 + 0) * 16 + l.val; omega)
theorem cast16_down {α : Type} (v : S1x1x16.Idx → α) (h) (l : Fin 16) :
    shapeCast S16 v h (ix1 l) = v (ix3 (0 : Fin 1) (0 : Fin 1) l) :=
  shapeCast_apply v h _ _ (by
    rw [Shape.rowMajor_val_three, Shape.rowMajor_val_one]; show (0 * 1 + 0) * 16 + l.val = l.val; omega)

end Cert.Proof.Bias
-- ==== Proof.Gather.lean ====
/-
  The gather: what one indexed load and its store write of an output buffer, and what a whole trip of the gather loop
  leaves there. Stated once for any buffer, head and block of sixteen lanes.
-/
module

public import proofs.«01_k».proof.Proof.Setup

@[expose] public section

noncomputable section

namespace Cert.Proof.Bias

open Cert.KernelIdeal Cert.KernelIdeal.Gen
open Idealize.ShloMosaic
open Idealize.ShloMosaic.SparseCore (S V T)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.SparseCore.Cfg (HIx)

variable {F : FTy → Type}

local notation "𝕄" => MT nD τ sig (HIx 1) (Elt F) ℕ UU ℕ

/-! ## What the gather computes -/

/-- Entry `w` of head `y` of a table. -/
def look (tb : S16x3969.Idx → Elt F .f32) (y : Fin 16) (w : BitVec 32) : Elt F .f32 :=
  tb (ix2 y (⟨w.toNat % 3969, Nat.mod_lt _ (by decide)⟩ : Fin 3969))

theorem lane_lt (j : Fin 64) (l : Fin 16) : 16 * j.val + l.val < 1024 := by omega

/-- An output buffer `b` partly filled from the index row `xr`: the lanes below block `j`, and of block `j` the heads
    below `n`. -/
def Filled (tb : S16x3969.Idx → Elt F .f32) (xr : Fin 1024 → BitVec 32) (b : Fin 3) (j n : ℕ) (f : S3x16x1024.Idx → Elt F .f32) : Prop :=
  ∀ (y : Fin 16) (x : Fin 1024), (x.val < 16 * j ∨ (x.val < 16 * j + 16 ∧ y.val < n)) → f (ix3 b y x) = look tb y (xr x)

/-- An index buffer `b` holds the index row `xr`. -/
def IdxRow (xr : Fin 1024 → BitVec 32) (b : Fin 3) (f : S3x1x1024.Idx → BitVec 32) : Prop :=
  ∀ x : Fin 1024, f (ix3 b (0 : Fin 1) x) = xr x

theorem filled_zero (tb : S16x3969.Idx → Elt F .f32) (xr) (b) (f) : Filled tb xr b 0 0 f := fun y x h => by omega
theorem filled_next {tb : S16x3969.Idx → Elt F .f32} {xr b j f} (h : Filled tb xr b j 16 f) : Filled tb xr b (j + 1) 0 f :=
  fun y x hx => h y x (by have := y.isLt; omega)

/-! ## The scratch, held -/

section
variable (d : Dev nD) (L : grid0.Coords)

/-- The subcore's copy of the table; its index buffer `b`; its output buffer `b`. -/
abbrev tP (tb : S16x3969.Idx → Elt F .f32) : sProp 𝕄 := (thr d L).loc cc0_scratch0 ↦{fullShare} tb
abbrev iP (b : Fin 3) (f : S3x1x1024.Idx → BitVec 32) : sProp 𝕄 := (thr d L).loc cc0_scratch1 ↦[iSet b]{fullShare} f
abbrev bP (b : Fin 3) (f : S3x16x1024.Idx → Elt F .f32) : sProp 𝕄 := (thr d L).loc cc0_scratch2 ↦[bSet b]{fullShare} f

/-! ## One indexed load and its store -/

variable [FloatOps F]

theorem filled_write {tb : S16x3969.Idx → Elt F .f32} {xr : Fin 1024 → BitVec 32} (hxr : ∀ x, (xr x).toNat < 3969) (b : Fin 3) (y : Fin 16) (j : Fin 64)
    {off : Fin 3 → ℕ} {h : ∀ a, off a + S1x1x16.size a ≤ S3x16x1024.size a} (hoff : off = ![b.val, y.val, 16 * j.val])
    {vy v : IVec S16 32} (hvy : ∀ x, (vy x).toNat = y.val) (hv : ∀ l : Fin 16, v (ix1 l) = xr ⟨16 * j.val + l.val, lane_lt j l⟩)
    {hidx : ∀ a x, ((![vy, v] : Fin 2 → IVec S16 32) a x).toNat < S16x3969.size a} {hc}
    {f : S3x16x1024.Idx → Elt F .f32} (hf : Filled tb xr b j.val y.val f) :
    Filled tb xr b j.val (y.val + 1)
      ((sO.access (Rect.unit (s := S3x16x1024) off S1x1x16.size h)).write (Elt F) f
        (shapeCast S1x1x16 (loadIdx ((sT.access (.whole S16x3969)).read (Elt F) tb) ![vy, v] hidx) hc) Finset.univ) := by
  intro y' x hx
  by_cases hin : y' = y ∧ 16 * j.val ≤ x.val ∧ x.val < 16 * j.val + 16
  · obtain ⟨rfl, h1, h2⟩ := hin
    obtain ⟨l, rfl⟩ : ∃ l : Fin 16, x = ⟨16 * j.val + l.val, lane_lt j l⟩ :=
      ⟨⟨x.val - 16 * j.val, by omega⟩, Fin.ext (show x.val = 16 * j.val + (x.val - 16 * j.val) by omega)⟩
    rw [← emb_oLanes b y' j hoff (h := h) l]
    refine (View.write_emb_of_mem _ _ (Finset.mem_univ _)).trans ?_
    rw [cast16_up]
    show loadIdx ((sT.access (.whole S16x3969)).read (Elt F) tb) ![vy, v] hidx (ix1 l) = _
    show tb _ = tb _
    congr 1
    funext a; apply Fin.ext
    match a with
    | ⟨0, _⟩ => show 0 + 1 * (vy (ix1 l)).toNat = y'.val; rw [hvy]; omega
    | ⟨1, _⟩ =>
      show 0 + 1 * (v (ix1 l)).toNat = _ % 3969
      rw [hv, Nat.mod_eq_of_lt (hxr _)]; omega
  · refine (View.write_of_not_mem _ _ _ ?_).trans (hf y' x ?_)
    · intro hm
      obtain ⟨z, -, hz⟩ := Finset.mem_map.mp hm
      have hz3 : z = (ix3 (0 : Fin 1) (0 : Fin 1) (z 2) : S1x1x16.Idx) := by
        funext a
        match a with
        | ⟨0, _⟩ => exact Subsingleton.elim (α := Fin 1) _ _
        | ⟨1, _⟩ => exact Subsingleton.elim (α := Fin 1) _ _
        | ⟨2, _⟩ => rfl
      have e : ((sO.access (Rect.unit (s := S3x16x1024) off S1x1x16.size h)).emb z : S3x16x1024.Idx) = _ :=
        (congrArg (View.emb _) hz3).trans (emb_oLanes b y j hoff (h := h) (z 2))
      have e2 := e.symm.trans hz
      have e1' : y = y' := congrFun e2 1
      have e2' : (⟨16 * j.val + (z 2).val, _⟩ : Fin 1024) = x := congrFun e2 2
      have hz2 : (z 2).val < 16 := (z 2).isLt
      exact hin ⟨e1'.symm, by rw [← e2']; simp, by rw [← e2']; simpa using hz2⟩
    · rcases hx with hx | ⟨hx, hy⟩
      · exact .inl hx
      · by_cases hlt : x.val < 16 * j.val
        · exact .inl hlt
        · refine .inr ⟨hx, ?_⟩
          rcases Nat.lt_or_ge y'.val y.val with hh | hh
          · exact hh
          · exact absurd ⟨Fin.ext (by omega), by omega, hx⟩ hin

theorem lanes_sub (b : Fin 3) (y : Fin 16) (j : Fin 64)
    {off : Fin 3 → ℕ} {h : ∀ a, off a + S1x1x16.size a ≤ S3x16x1024.size a} (hoff : off = ![b.val, y.val, 16 * j.val]) :
    (sO.access (Rect.unit (s := S3x16x1024) off S1x1x16.size h)).set ⊆ bSet b := by
  intro i hi
  obtain ⟨z, -, hz⟩ := Finset.mem_map.mp hi
  rw [mem_bSet, ← hz]
  subst hoff
  apply Fin.ext
  have hz0 : (z 0).val < 1 := (z 0).isLt
  show b.val + 1 * (z 0).val = b.val
  omega

theorem iLanes_sub (b : Fin 3) (j : Fin 64)
    {off : Fin 3 → ℕ} {h : ∀ a, off a + S1x1x16.size a ≤ S3x1x1024.size a} (hoff : off = ![b.val, 0, 16 * j.val]) :
    sI.view.setOn (Rect.unit (s := S3x1x1024) off S1x1x16.size h).toLoadRect.set ⊆ iSet b := by
  intro i hi
  have hi' : i ∈ (sI.access (Rect.unit (s := S3x1x1024) off S1x1x16.size h)).set := by rw [View.set_slice]; exact hi
  obtain ⟨z, -, hz⟩ := Finset.mem_map.mp hi'
  rw [mem_iSet, ← hz]
  subst hoff
  apply Fin.ext
  have hz0 : (z 0).val < 1 := (z 0).isLt
  show b.val + 1 * (z 0).val = b.val
  omega

/-- One head's sixteen lanes: the indexed load off the table, a load whose value nothing uses, the store. -/
theorem gather_step {α : Type} {Q : α → sProp 𝕄} {tb : S16x3969.Idx → Elt F .f32} {xr : Fin 1024 → BitVec 32} (hxr : ∀ x, (xr x).toNat < 3969)
    (b : Fin 3) (y : Fin 16) (j : Fin 64)
    {off : Fin 3 → ℕ} {h : ∀ a, off a + S1x1x16.size a ≤ S3x16x1024.size a} (hoff : off = ![b.val, y.val, 16 * j.val])
    {vy v : IVec S16 32} (hvy : ∀ x, (vy x).toNat = y.val) (hv : ∀ l : Fin 16, v (ix1 l) = xr ⟨16 * j.val + l.val, lane_lt j l⟩)
    {hidx : ∀ a x, ((![vy, v] : Fin 2 → IVec S16 32) a x).toNat < S16x3969.size a} {hc hl hl2 hs hm}
    {kk : Vec F S16 .f32 → Vec F S1x1x16 .f32 → PUnit.{1} → Prog (TpuEff nD τ sig (Elt F) Λ₀ (.scVector (cV L) (jV L))) α}
    {f : S3x16x1024.Idx → Elt F .f32} (hf : Filled tb xr b j.val y.val f) :
    iprop(tP d L tb ∗ bP d L b f)
      ⊢ iprop((∀ g l, (tP d L tb ∗ ∃ f', ⌜Filled tb xr b j.val (y.val + 1) f'⌝ ∗ bP d L b f') -∗ wp frame (wpE (defs₀ (F := F)) 𝒱₀ (thr d L) none) Set.univ (kk g l ⟨⟩) Q)
        -∗ wp frame (wpE (defs₀ (F := F)) 𝒱₀ (thr d L) none) Set.univ
          (SparseCore.vectorLoadIdx sT ![vy, v] hidx hl >>= fun g : Vec F S16 .f32 =>
            .op (.load sO (Rect.unit (s := S3x16x1024) off S1x1x16.size h).toLoadRect hl2) fun l =>
              .op (.store sO (Rect.unit (s := S3x16x1024) off S1x1x16.size h) (shapeCast S1x1x16 g hc) Finset.univ hs hm) (kk g l)) Q) := by
  iintro ⟨HT, HB⟩ Hk
  iapply (SparseCore.wp_vectorLoadIdx (defs := defs₀ (F := F)) 𝒱₀ (thr d L) none Set.univ (base := sT) (S := Finset.univ) (q := fullShare) (f := tb)
    (Finset.subset_univ _)) $$ HT
  iintro HT
  iapply (wp_load_rect (defs := defs₀ (F := F)) 𝒱₀ (thr d L) none Set.univ (m := sO) (r := Rect.unit (s := S3x16x1024) off S1x1x16.size h) (S := bSet b) (q := fullShare) (f := f)
    (lanes_sub b y j hoff)) $$ HB
  iintro HB
  iapply (wp_store (defs := defs₀ (F := F)) 𝒱₀ (thr d L) none Set.univ (m := sO) (r := Rect.unit (s := S3x16x1024) off S1x1x16.size h) (Mk := Finset.univ) (S := bSet b) (f := f)
    ((View.setOn_subset_set _ _).trans (lanes_sub b y j hoff))) $$ HB
  iintro HB
  iapply Hk $$ [HT HB]
  isplitl [HT]; · iexact HT
  iexists ((sO.access (Rect.unit (s := S3x16x1024) off S1x1x16.size h)).write (Elt F) f
        (shapeCast S1x1x16 (loadIdx ((sT.access (.whole S16x3969)).read (Elt F) tb) ![vy, v] hidx) hc) Finset.univ)
  isplitr
  · ipureintro; exact filled_write hxr b y j hoff hvy hv (hidx := hidx) (hc := hc) hf
  · iexact HB

/-- A trip's first load: sixteen of the row's indices. -/
theorem lanes_load {α : Type} {Q : α → sProp 𝕄} {xr : Fin 1024 → BitVec 32} (b : Fin 3) (j : Fin 64)
    {off : Fin 3 → ℕ} {h : ∀ a, off a + S1x1x16.size a ≤ S3x1x1024.size a} (hoff : off = ![b.val, 0, 16 * j.val]) {hl}
    {kk : Vec F S1x1x16 .i32 → Prog (TpuEff nD τ sig (Elt F) Λ₀ (.scVector (cV L) (jV L))) α}
    {f : S3x1x1024.Idx → BitVec 32} (hf : IdxRow xr b f) :
    (iP d L b f : sProp 𝕄)
      ⊢ iprop((iP d L b f -∗ ∀ w : Vec F S1x1x16 .i32, ⌜∀ l : Fin 16, w (ix3 (0 : Fin 1) (0 : Fin 1) l) = xr ⟨16 * j.val + l.val, lane_lt j l⟩⌝
            -∗ wp frame (wpE (defs₀ (F := F)) 𝒱₀ (thr d L) none) Set.univ (kk w) Q)
        -∗ wp frame (wpE (defs₀ (F := F)) 𝒱₀ (thr d L) none) Set.univ
          (.op (.load sI (Rect.unit (s := S3x1x1024) off S1x1x16.size h).toLoadRect hl) kk) Q) := by
  iintro HI Hk
  iapply (wp_load (defs := defs₀ (F := F)) 𝒱₀ (thr d L) none Set.univ (m := sI) (S := iSet b) (q := fullShare) (f := f)
    (iLanes_sub b j hoff)) $$ HI
  iintro HI
  iapply Hk $$ HI
  ipureintro
  intro l
  refine Eq.trans ?_ (hf _)
  rw [View.readAt_apply, emb_iLanes b j hoff l]
  rfl

end

end Cert.Proof.Bias
-- ==== Proof.Trips.lean ====
/-
  The five gather loops' trips, each an instance of the step lemmas.
-/
module

public import proofs.«01_k».proof.Proof.Gather

@[expose] public section

noncomputable section

namespace Cert.Proof.Bias

open Cert.KernelIdeal Cert.KernelIdeal.Gen
open Idealize.ShloMosaic
open Idealize.ShloMosaic.SparseCore (S V T)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.SparseCore.Cfg (HIx)

variable {F : FTy → Type}

local notation "𝕄" => MT nD τ sig (HIx 1) (Elt F) ℕ UU ℕ

section
variable (d : Dev nD) (L : grid0.Coords) [FloatOps F]

theorem chk_ok {xr : Fin 1024 → BitVec 32} (hxr : ∀ x, (xr x).toNat < 3969) (y : Fin 16) (j : Fin 64)
    {vy v : IVec S16 32} (hvy : ∀ x, (vy x).toNat = y.val) (hv : ∀ l : Fin 16, v (ix1 l) = xr ⟨16 * j.val + l.val, lane_lt j l⟩) :
    ∀ a x, ((![vy, v] : Fin 2 → IVec S16 32) a x).toNat < S16x3969.size a := by
  intro a x
  match a with
  | ⟨0, _⟩ => show (vy x).toNat < 16; rw [hvy]; exact y.isLt
  | ⟨1, _⟩ =>
    show (v x).toNat < 3969
    have e : v x = _ := (congrArg v (eq_ix1 x)).trans (hv (x 0))
    rw [e]; exact hxr _

/-- One head of a trip: its check, which the row's range meets, and `gather_step`; `R` is held beside. -/
theorem gather_one {α : Type} {Q : α → sProp 𝕄} {tb : S16x3969.Idx → Elt F .f32} {xr : Fin 1024 → BitVec 32} (hxr : ∀ x, (xr x).toNat < 3969)
    (b : Fin 3) (j : Fin 64) {n : ℕ} {f : S3x16x1024.Idx → Elt F .f32} {v : IVec S16 32}
    (hv : ∀ l : Fin 16, v (ix1 l) = xr ⟨16 * j.val + l.val, lane_lt j l⟩) (hf : Filled tb xr b j.val n f)
    {off : Fin 3 → ℕ} {h : ∀ a, off a + S1x1x16.size a ≤ S3x16x1024.size a} {vy : IVec S16 32} {P : Prop} {dec : Decidable P}
    {hidx : PLift P → ∀ a x, ((![vy, v] : Fin 2 → IVec S16 32) a x).toNat < S16x3969.size a} {hc hl hl2 hs hm}
    {kk : Vec F S16 .f32 → Vec F S1x1x16 .f32 → PUnit.{1} → Prog (TpuEff nD τ sig (Elt F) Λ₀ (.scVector (cV L) (jV L))) α} {R : sProp 𝕄}
    (hn : n < 16) (hoff : off = ![b.val, n, 16 * j.val]) (hvy : ∀ x, (vy x).toNat = n)
    (hP : (∀ a x, ((![vy, v] : Fin 2 → IVec S16 32) a x).toNat < S16x3969.size a) → P)
    (hk : ∀ g l f', Filled tb xr b j.val (n + 1) f' →
      (iprop(tP d L tb ∗ bP d L b f' ∗ R) ⊢ wp frame (wpE (defs₀ (F := F)) 𝒱₀ (thr d L) none) Set.univ (kk g l ⟨⟩) Q)) :
    iprop(tP d L tb ∗ bP d L b f ∗ R)
      ⊢ wp frame (wpE (defs₀ (F := F)) 𝒱₀ (thr d L) none) Set.univ
          (.op (.assume P dec) fun w => SparseCore.vectorLoadIdx sT ![vy, v] (hidx w) hl >>= fun g : Vec F S16 .f32 =>
            .op (.load sO (Rect.unit (s := S3x16x1024) off S1x1x16.size h).toLoadRect hl2) fun l =>
              .op (.store sO (Rect.unit (s := S3x16x1024) off S1x1x16.size h) (shapeCast S1x1x16 g hc) Finset.univ hs hm) (kk g l)) Q := by
  rw [wp_assume_of _ _ _ _ (hP (chk_ok hxr ⟨n, hn⟩ j hvy hv))]
  iintro ⟨HT, HB, HR⟩
  iapply (gather_step d L hxr b ⟨n, hn⟩ j hoff hvy hv hf) $$ [HT HB]
  · isplitl [HT] <;> iassumption
  iintro %g %l ⟨HT, %f', %hf', HB⟩
  iapply (hk g l f' hf') $$ [HT HB HR]
  isplitl [HT]; · iexact HT
  isplitl [HB] <;> iassumption

/-- A trip's first load. -/
theorem lanes_one {α : Type} {Q : α → sProp 𝕄} {xr : Fin 1024 → BitVec 32} (b : Fin 3) (j : Fin 64)
    {off : Fin 3 → ℕ} {h : ∀ a, off a + S1x1x16.size a ≤ S3x1x1024.size a} (hoff : off = ![b.val, 0, 16 * j.val]) {hl}
    {kk : Vec F S1x1x16 .i32 → Prog (TpuEff nD τ sig (Elt F) Λ₀ (.scVector (cV L) (jV L))) α}
    {f : S3x1x1024.Idx → BitVec 32} (hf : IdxRow xr b f) {R : sProp 𝕄}
    (hk : ∀ w : Vec F S1x1x16 .i32, (∀ l : Fin 16, shapeCast S16 w shapeCasts_S1x1x16_S16 (ix1 l) = xr ⟨16 * j.val + l.val, lane_lt j l⟩) →
      (iprop(R ∗ iP d L b f) ⊢ wp frame (wpE (defs₀ (F := F)) 𝒱₀ (thr d L) none) Set.univ (kk w) Q)) :
    iprop(R ∗ iP d L b f)
      ⊢ wp frame (wpE (defs₀ (F := F)) 𝒱₀ (thr d L) none) Set.univ
          (.op (.load sI (Rect.unit (s := S3x1x1024) off S1x1x16.size h).toLoadRect hl) kk) Q := by
  iintro ⟨HR, HI⟩
  iapply (lanes_load d L b j hoff hf) $$ HI
  iintro HI %w %hw
  iapply (hk w fun l => (cast16_down w _ l).trans (hw l)) $$ [HR HI]
  isplitl [HR] <;> iassumption

/-- What a trip holds, before and after: the table, the row of indices, the output buffer filled up to a block. -/
abbrev tripI (tb : S16x3969.Idx → Elt F .f32) (xr : Fin 1024 → BitVec 32) (b : Fin 3) (j : ℕ) : sProp 𝕄 :=
  iprop(tP d L tb ∗ (∃ fi, ⌜IdxRow xr b fi⌝ ∗ iP d L b fi) ∗ ∃ f, ⌜Filled tb xr b j 0 f⌝ ∗ bP d L b f)

variable {tb : S16x3969.Idx → Elt F .f32} {xr : Fin 1024 → BitVec 32} (hxr : ∀ x, (xr x).toNat < 3969)
include hxr

/-- A trip from its two kinds of step: opened, and closed. -/
theorem trip_open {b : Fin 3} {j : Fin 64} {G : sProp 𝕄}
    (hk : ∀ fi f, IdxRow xr b fi → Filled tb xr b j.val 0 f → (iprop((tP d L tb ∗ bP d L b f) ∗ iP d L b fi) ⊢ G)) :
    tripI d L tb xr b j.val ⊢ G := by
  iintro ⟨HT, ⟨%fi, %hfi, HI⟩, %f, %hf, HB⟩
  iapply (hk fi f hfi hf) $$ [HT HI HB]
  isplitl [HT HB]
  · isplitl [HT] <;> iassumption
  · iexact HI
theorem trip_close {b : Fin 3} {j : Fin 64} {fi f} (hfi : IdxRow xr b fi) (hf : Filled tb xr b j.val 16 f) :
    iprop(tP d L tb ∗ bP d L b f ∗ iP d L b fi) ⊢ tripI d L tb xr b (j.val + 1) := by
  iintro ⟨HT, HB, HI⟩
  isplitl [HT]; · iexact HT
  isplitl [HI]
  · iexists fi; isplitr; · ipureintro; exact hfi
    iexact HI
  · iexists f; isplitr; · ipureintro; exact filled_next hf
    iexact HB

theorem trip_t2 (v2 c c' : BitVec 32) (t1 : Fin k0_t1_loop.trips) (k : Fin k0_t2_loop.trips) :
    tripI d L tb xr 0 k.val ⊢ wp frame (wpE (defs₀ (F := F)) 𝒱₀ (thr d L) none) Set.univ
      (k0_t2_body L tV (Memref.isWhole_whole _) xV (Memref.isWhole_whole _) oV (Memref.isWhole_whole _) sT (Memref.isWhole_whole _) sI (Memref.isWhole_whole _)
        sO (Memref.isWhole_whole _) cc0_scratch3 cc0_scratch4 cc0_scratch5 cc0_scratch6 cc0_scratch7 cc0_scratch8 cc0_scoped0 v2 c c' t1 k ())
      fun _ => tripI d L tb xr 0 (k.val + 1) := by
  simp only [k0_t2_body, k0_part4_eq_skeleton, k0_part4_skel, k0_part3_eq_skeleton, k0_part3_skel, k0_part2_eq_skeleton, k0_part2_skel, k0_part1_eq_skeleton, k0_part1_skel, Prog.lift, Prog.bind_op, Prog.bind_ret, Prog.pure_eq_ret, Prog.bind_assoc]
  refine trip_open d L hxr (j := Fin.cast (by decide) k) fun fi f hfi hf => ?_
  refine lanes_one d L 0 (Fin.cast (by decide) k) (k0_off6_eq k) hfi fun w hw => ?_
  refine BI.sep_assoc.trans ?_
  iterate 16
    refine gather_one d L hxr 0 (Fin.cast (by decide) k) hw hf ?_ ?_ ?_ ?_ ?_
    · decide
    · exact ClosedOff.eq.trans rfl
    · exact fun _ => rfl
    · exact id
    clear hf; intro _ _ f hf
  rw [wp_ret]
  exact (trip_close d L hxr hfi hf).trans fupd_intro

theorem trip_t3 (v2 : BitVec 32) (t1 : Fin k0_t1_loop.trips) (a14 : BitVec 32) (k : Fin k0_t3_loop.trips) :
    tripI d L tb xr 1 k.val ⊢ wp frame (wpE (defs₀ (F := F)) 𝒱₀ (thr d L) none) Set.univ
      (k0_t3_body L tV (Memref.isWhole_whole _) xV (Memref.isWhole_whole _) oV (Memref.isWhole_whole _) sT (Memref.isWhole_whole _) sI (Memref.isWhole_whole _)
        sO (Memref.isWhole_whole _) cc0_scratch3 cc0_scratch4 cc0_scratch5 cc0_scratch6 cc0_scratch7 cc0_scratch8 cc0_scoped0 v2 t1 a14 k ())
      fun _ => tripI d L tb xr 1 (k.val + 1) := by
  simp only [k0_t3_body, k0_part8_eq_skeleton, k0_part8_skel, k0_part7_eq_skeleton, k0_part7_skel, k0_part6_eq_skeleton, k0_part6_skel, k0_part5_eq_skeleton, k0_part5_skel, Prog.lift, Prog.bind_op, Prog.bind_ret, Prog.pure_eq_ret, Prog.bind_assoc]
  refine trip_open d L hxr (j := Fin.cast (by decide) k) fun fi f hfi hf => ?_
  refine lanes_one d L 1 (Fin.cast (by decide) k) (k0_off26_eq k) hfi fun w hw => ?_
  refine BI.sep_assoc.trans ?_
  iterate 16
    refine gather_one d L hxr 1 (Fin.cast (by decide) k) hw hf ?_ ?_ ?_ ?_ ?_
    · decide
    · exact ClosedOff.eq.trans rfl
    · exact fun _ => rfl
    · exact id
    clear hf; intro _ _ f hf
  rw [wp_ret]
  exact (trip_close d L hxr hfi hf).trans fupd_intro

theorem trip_t4 (v2 : BitVec 32) (t1 : Fin k0_t1_loop.trips) (a14 : BitVec 32) (k : Fin k0_t4_loop.trips) :
    tripI d L tb xr 2 k.val ⊢ wp frame (wpE (defs₀ (F := F)) 𝒱₀ (thr d L) none) Set.univ
      (k0_t4_body L tV (Memref.isWhole_whole _) xV (Memref.isWhole_whole _) oV (Memref.isWhole_whole _) sT (Memref.isWhole_whole _) sI (Memref.isWhole_whole _)
        sO (Memref.isWhole_whole _) cc0_scratch3 cc0_scratch4 cc0_scratch5 cc0_scratch6 cc0_scratch7 cc0_scratch8 cc0_scoped0 v2 t1 a14 k ())
      fun _ => tripI d L tb xr 2 (k.val + 1) := by
  simp only [k0_t4_body, k0_part12_eq_skeleton, k0_part12_skel, k0_part11_eq_skeleton, k0_part11_skel, k0_part10_eq_skeleton, k0_part10_skel, k0_part9_eq_skeleton, k0_part9_skel, Prog.lift, Prog.bind_op, Prog.bind_ret, Prog.pure_eq_ret, Prog.bind_assoc]
  refine trip_open d L hxr (j := Fin.cast (by decide) k) fun fi f hfi hf => ?_
  refine lanes_one d L 2 (Fin.cast (by decide) k) (k0_off45_eq k) hfi fun w hw => ?_
  refine BI.sep_assoc.trans ?_
  iterate 16
    refine gather_one d L hxr 2 (Fin.cast (by decide) k) hw hf ?_ ?_ ?_ ?_ ?_
    · decide
    · exact ClosedOff.eq.trans rfl
    · exact fun _ => rfl
    · exact id
    clear hf; intro _ _ f hf
  rw [wp_ret]
  exact (trip_close d L hxr hfi hf).trans fupd_intro

theorem trip_t5 (v2 v22 : BitVec 32) (k : Fin k0_t5_loop.trips) :
    tripI d L tb xr 0 k.val ⊢ wp frame (wpE (defs₀ (F := F)) 𝒱₀ (thr d L) none) Set.univ
      (k0_t5_body L tV (Memref.isWhole_whole _) xV (Memref.isWhole_whole _) oV (Memref.isWhole_whole _) sT (Memref.isWhole_whole _) sI (Memref.isWhole_whole _)
        sO (Memref.isWhole_whole _) cc0_scratch3 cc0_scratch4 cc0_scratch5 cc0_scratch6 cc0_scratch7 cc0_scratch8 cc0_scoped0 v2 v22 k ())
      fun _ => tripI d L tb xr 0 (k.val + 1) := by
  simp only [k0_t5_body, k0_part19_eq_skeleton, k0_part19_skel, k0_part18_eq_skeleton, k0_part18_skel, k0_part17_eq_skeleton, k0_part17_skel, k0_part16_eq_skeleton, k0_part16_skel, Prog.lift, Prog.bind_op, Prog.bind_ret, Prog.pure_eq_ret, Prog.bind_assoc]
  refine trip_open d L hxr (j := Fin.cast (by decide) k) fun fi f hfi hf => ?_
  refine lanes_one d L 0 (Fin.cast (by decide) k) (k0_off64_eq k) hfi fun w hw => ?_
  refine BI.sep_assoc.trans ?_
  iterate 16
    refine gather_one d L hxr 0 (Fin.cast (by decide) k) hw hf ?_ ?_ ?_ ?_ ?_
    · decide
    · exact ClosedOff.eq.trans rfl
    · exact fun _ => rfl
    · exact id
    clear hf; intro _ _ f hf
  rw [wp_ret]
  exact (trip_close d L hxr hfi hf).trans fupd_intro

theorem trip_t6 (v2 v50 : BitVec 32) (k : Fin k0_t6_loop.trips) :
    tripI d L tb xr 1 k.val ⊢ wp frame (wpE (defs₀ (F := F)) 𝒱₀ (thr d L) none) Set.univ
      (k0_t6_body L tV (Memref.isWhole_whole _) xV (Memref.isWhole_whole _) oV (Memref.isWhole_whole _) sT (Memref.isWhole_whole _) sI (Memref.isWhole_whole _)
        sO (Memref.isWhole_whole _) cc0_scratch3 cc0_scratch4 cc0_scratch5 cc0_scratch6 cc0_scratch7 cc0_scratch8 cc0_scoped0 v2 v50 k ())
      fun _ => tripI d L tb xr 1 (k.val + 1) := by
  simp only [k0_t6_body, k0_part23_eq_skeleton, k0_part23_skel, k0_part22_eq_skeleton, k0_part22_skel, k0_part21_eq_skeleton, k0_part21_skel, k0_part20_eq_skeleton, k0_part20_skel, Prog.lift, Prog.bind_op, Prog.bind_ret, Prog.pure_eq_ret, Prog.bind_assoc]
  refine trip_open d L hxr (j := Fin.cast (by decide) k) fun fi f hfi hf => ?_
  refine lanes_one d L 1 (Fin.cast (by decide) k) (k0_off82_eq k) hfi fun w hw => ?_
  refine BI.sep_assoc.trans ?_
  iterate 16
    refine gather_one d L hxr 1 (Fin.cast (by decide) k) hw hf ?_ ?_ ?_ ?_ ?_
    · decide
    · exact ClosedOff.eq.trans rfl
    · exact fun _ => rfl
    · exact id
    clear hf; intro _ _ f hf
  rw [wp_ret]
  exact (trip_close d L hxr hfi hf).trans fupd_intro

end
end Cert.Proof.Bias
-- ==== Proof.Flights.lean ====
/-
  The copies. Each buffer has a semaphore of its own with at most one copy on it: a buffer is either free or in flight,
  and a flight gives back, at its wait, what it moved and what it was lent.
-/
module

public import proofs.«01_k».proof.Proof.Trips

@[expose] public section

noncomputable section

namespace Cert.Proof.Bias

open Cert.KernelIdeal Cert.KernelIdeal.Gen
open Idealize.ShloMosaic
open Idealize.ShloMosaic.SparseCore (S V T)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.SparseCore.Cfg (HIx)

variable {F : FTy → Type}

local notation "𝕄" => MT nD τ sig (HIx 1) (Elt F) ℕ UU ℕ

section
variable (d : Dev nD) (L : grid0.Coords)

/-- What is held beside a flight may travel with it. -/
theorem flight_frame {c : Thread nD τ} {sm : SemLoc sig} {ι : HIx 1} {N : ℕ} {D X : sProp 𝕄} :
    iprop(Flight EC c sm ι N D ∗ X) ⊢ (Flight EC c sm ι N iprop(D ∗ X) : sProp 𝕄) := by
  unfold Flight
  iintro ⟨⟨⟨%R, HR, %hcap, %hpeek⟩, Hcred⟩, HX⟩
  isplitl [HR HX]
  · iexists iprop(R ∗ X)
    isplitl [HR HX]
    · isplitl [HR] <;> iassumption
    isplit
    · ipureintro
      intro K
      refine BIBase.Entails.trans ?_ (hcap K)
      iintro ⟨⟨HR, HX⟩, HK⟩
      isplitl [HR]; · iexact HR
      iintro ⟨Hv, HD⟩
      iapply HK
      isplitl [Hv]; · iexact Hv
      isplitl [HD] <;> iassumption
    · ipureintro
      intro K
      refine BIBase.Entails.trans ?_ (hpeek K)
      iintro ⟨⟨HR, HX⟩, HK⟩
      isplitl [HR]; · iexact HR
      iintro HR
      iapply HK
      isplitl [HR] <;> iassumption
  · iexact Hcred

/-! ## What is held -/

/-- Row `n` of the tile's thirty-two, in the whole matrix. -/
def row (n : ℕ) : Fin 1024 := ⟨(64 * (L 1).val + 32 * (L 0).val + n) % 1024, Nat.mod_lt _ (by decide)⟩
theorem row_val {n : ℕ} (hn : n < 32) : (row L n).val = 64 * (L 1).val + 32 * (L 0).val + n := by
  have h1 : (L 1).val < 16 := (L 1).isLt
  have h0 : (L 0).val < 2 := (L 0).isLt
  exact Nat.mod_eq_of_lt (by omega)

/-- A row of the index matrix. -/
def xrow (X : S1024x1024.Idx → BitVec 32) (r : Fin 1024) : Fin 1024 → BitVec 32 := fun x => X (ix2 r x)
/-- The result: at head `y`, row `r`, column `x`, the table's entry at head `y` and the index at `(r, x)`. -/
def gath (tb : S16x3969.Idx → Elt F .f32) (X : S1024x1024.Idx → BitVec 32) : S16x1024x1024.Idx → Elt F .f32 :=
  fun i => look tb (i 0) (X (ix2 (i 1) (i 2)))

/-- A share of the index matrix, and one row of the result. -/
abbrev xP (q : PosShare TreeShare) (X : S1024x1024.Idx → BitVec 32) : sProp 𝕄 := xLoc d ↦{q} X
abbrev oP (r : Fin 1024) (g : S16x1024x1024.Idx → Elt F .f32) : sProp 𝕄 := oLoc d ↦[oSet r]{fullShare} g

/-- The amounts the copies' semaphores rise by. -/
abbrev nI : ℕ := (iAt ![0, 0, 0] inb_S3x1x1024_S1x1x1024_0_0_0).view.dmaCredit
abbrev nO : ℕ := (oAt ![0, 0, 0] (by decide)).view.dmaCredit

/-- The index buffer `b` with row `r` in it. -/
abbrev iHas (X : S1024x1024.Idx → BitVec 32) (b : Fin 3) (r : Fin 1024) : sProp 𝕄 := iprop(∃ fi, ⌜IdxRow (xrow X r) b fi⌝ ∗ iP d L b fi)
abbrev iAny (b : Fin 3) : sProp 𝕄 := iprop(∃ fi, iP d L b fi)
abbrev bAny (b : Fin 3) : sProp 𝕄 := iprop(∃ f, bP d L b f)

/-- Index buffer `b` free, and with row `r` on its way into it. -/
abbrev idxFree (sm : DmaSem sig) (q : PosShare TreeShare) (X : S1024x1024.Idx → BitVec 32) (b : Fin 3) : sProp 𝕄 :=
  iprop(semVal (thr d L, SemLoc.dma sm) 0 ∗ xP d q X ∗ iAny d L b)
def idxFly (sm : DmaSem sig) (q : PosShare TreeShare) (X : S1024x1024.Idx → BitVec 32) (b : Fin 3) (r : Fin 1024) : sProp 𝕄 :=
  Flight EC (thr d L) (SemLoc.dma sm) none nI iprop(iHas d L X b r ∗ xP d q X)

/-- Output buffer `b` free, and on its way out to row `r` of the result. -/
abbrev outFree (sm : DmaSem sig) (b : Fin 3) : sProp 𝕄 := iprop(semVal (thr d L, SemLoc.dma sm) 0 ∗ bAny d L b)
def outFly (sm : DmaSem sig) (tb : S16x3969.Idx → Elt F .f32) (X : S1024x1024.Idx → BitVec 32) (b : Fin 3) (r : Fin 1024) : sProp 𝕄 :=
  Flight EC (thr d L) (SemLoc.dma sm) none nO iprop(oP d r (gath tb X) ∗ bAny d L b)

/-- What a wait needs of the tile: that it may wait for its own copies, and the record of what it waited for. -/
abbrev waits (O : CellTallies nD τ sig (HIx 1)) (W : Waits sig (HIx 1)) : sProp 𝕄 :=
  iprop(MayWaits (thr d L) none O ∗ ∃ W', ⌜∀ p ∈ W', p ∈ W ∨ p.2 = none⌝ ∗ owes (thr d L) O W')

/-! ## The copies' steps -/

section steps
variable [FloatOps F] {α : Type} {tb : S16x3969.Idx → Elt F .f32} {X : S1024x1024.Idx → BitVec 32}
  {O : CellTallies nD τ sig (HIx 1)} {W : Waits sig (HIx 1)} {q : PosShare TreeShare}
  {kk : PUnit.{1} → Prog (TpuEff nD τ sig (Elt F) Λ₀ (.scVector (cV L) (jV L))) α}

theorem idxRow_write {b : Fin 3} {r : Fin 1024} {off : Fin 2 → ℕ} {h} {off' : Fin 3 → ℕ} {h'} (hoff : off = ![r.val, 0]) (hoff' : off' = ![b.val, 0, 0])
    (f : S3x1x1024.Idx → BitVec 32) :
    IdxRow (xrow X r) b ((iAt off' h').view.write (Elt F) f ((ReadAs.same : ReadAs (Elt F) S1024 .i32 S1024 .i32).apply ((xAt off h).view.read (Elt F) X)) Finset.univ) := by
  intro x
  rw [← emb_iAt (off := off') (h := h') b hoff' x, View.write_emb, if_pos (Finset.mem_univ _)]
  exact congrArg X (emb_xAt (h := h) r hoff x)

theorem idx_issue {Q : α → sProp 𝕄} (b : Fin 3) (r : Fin 1024) (sm : DmaSem sig) {off : Fin 2 → ℕ} {h} {off' : Fin 3 → ℕ} {h'} {hs hd ht}
    (hoff : off = ![r.val, 0]) (hoff' : off' = ![b.val, 0, 0]) :
    idxFree d L sm q X b ⊢ iprop((idxFly d L sm q X b r -∗ wp frame (wpE (defs₀ (F := F)) 𝒱₀ (thr d L) none) Set.univ (kk ⟨⟩) Q)
      -∗ wp frame (wpE (defs₀ (F := F)) 𝒱₀ (thr d L) none) Set.univ
        (.op (.enqueueDma (xAt off h) (.here (iAt off' h')) (.dma sm) hs hd ht) kk) Q) := by
  iintro ⟨Hv, HX, %fi, HI⟩ Hk
  ihave HX' := (pointsTo_split_subset (ℓ := xLoc d) (I := xSet r) (S := Finset.univ) (q := q) (f := X) (Finset.subset_univ _)).1 $$ HX
  icases HX' with ⟨HX1, HX2⟩
  iapply (wp_dmaLocal (defs := defs₀ (F := F)) EC 𝒱₀ (thr d L) none (src := xAt off h) (dst := iAt off' h') (via := .same) (q := q) (fs := X) (Sd := iSet b) (fd := fi)
    none nI rfl (View.dmaCredit_pos _ (by decide)) (set_iAt b hoff').le) $$ [Hv HX1 HI]
  · isplitl [HX1]
    · rw [set_xAt r hoff]; iexact HX1
    isplitl [HI] <;> iassumption
  iintro HF
  iapply Hk
  unfold idxFly
  iapply (Flight_mono EC (thr d L) (D := iprop(_ ∗ (xLoc d ↦[Finset.univ \ xSet r]{q} X))) ?_)
  rotate_left
  · iapply flight_frame
    isplitl [HF]; · iexact HF
    iexact HX2
  iintro ⟨⟨HI, HX1⟩, HX2⟩
  isplitl [HI]
  · iexists ((iAt off' h').view.write (Elt F) fi ((ReadAs.same : ReadAs (Elt F) S1024 .i32 S1024 .i32).apply ((xAt off h).view.read (Elt F) X)) Finset.univ)
    isplitr
    · ipureintro; exact idxRow_write (F := F) hoff hoff' fi
    · iexact HI
  · rw [set_xAt r hoff]
    iapply (pointsTo_split_subset (ℓ := xLoc d) (I := xSet r) (S := Finset.univ) (q := q) (f := X) (Finset.subset_univ _)).2
    isplitl [HX1] <;> iassumption

/-- A wait of the tile's own copy. -/
theorem own_wait {Q : α → sProp 𝕄} {sp sp' : Space} {κ' : Kind} {s s' : Shape} {e e' : EltTy} {sm : DmaSem sig} {srcw : Memref sig (thr d L).2.kind sp' s' e'}
    {dstw : Memref sig κ' sp s e} {hs hd} {N : ℕ} (hN : dstw.view.dmaCredit = N) {D : sProp 𝕄} :
    iprop(Flight EC (thr d L) (.dma sm) none N D ∗ waits d L O W)
      ⊢ iprop((iprop(D ∗ semVal (thr d L, SemLoc.dma sm) 0 ∗ waits d L O W) -∗ wp frame (wpE (defs₀ (F := F)) 𝒱₀ (thr d L) none) Set.univ (kk ⟨⟩) Q)
      -∗ wp frame (wpE (defs₀ (F := F)) 𝒱₀ (thr d L) none) Set.univ (.op (.waitDma2 sm srcw dstw hs hd) kk) Q) := by
  iintro ⟨HF, #Hm, %W', %hW', HO⟩ Hk
  iapply (wp_waitLocalO (defs := defs₀ (F := F)) EC 𝒱₀ (thr d L) none none hN (O := O) (W := W')) $$ [HF HO]
  · isplitl [HF]; · iexact HF
    isplitl [HO]; · iexact HO
    iapply (MayWaits.elim (SemLoc.dma sm)) $$ Hm
  iintro ⟨HD, Hv, HO⟩
  iapply Hk
  isplitl [HD]; · iexact HD
  isplitl [Hv]; · iexact Hv
  isplitr; · iexact Hm
  iexists (insert (SemLoc.dma sm, none) W')
  isplitr
  · ipureintro
    intro p hp
    rcases Finset.mem_insert.mp hp with rfl | hp
    · exact Or.inr rfl
    · exact hW' p hp
  · iexact HO

theorem idx_wait {Q : α → sProp 𝕄} (b : Fin 3) (r : Fin 1024) (sm : DmaSem sig) {off : Fin 2 → ℕ} {h} {off' : Fin 3 → ℕ} {h'} {hs hd} :
    iprop(idxFly d L sm q X b r ∗ waits d L O W)
      ⊢ iprop((iprop((iHas d L X b r ∗ xP d q X) ∗ semVal (thr d L, SemLoc.dma sm) 0 ∗ waits d L O W) -∗ wp frame (wpE (defs₀ (F := F)) 𝒱₀ (thr d L) none) Set.univ (kk ⟨⟩) Q)
      -∗ wp frame (wpE (defs₀ (F := F)) 𝒱₀ (thr d L) none) Set.univ (.op (.waitDma2 sm (xAt off h) (iAt off' h') hs hd) kk) Q) := by
  unfold idxFly
  exact own_wait d L (dstw := iAt off' h') rfl

theorem out_wait {Q : α → sProp 𝕄} (b : Fin 3) (r : Fin 1024) (sm : DmaSem sig) {off : Fin 3 → ℕ} {h} {off' : Fin 3 → ℕ} {h'} {hs hd} :
    iprop(outFly d L sm tb X b r ∗ waits d L O W)
      ⊢ iprop((iprop((oP d r (gath tb X) ∗ bAny d L b) ∗ semVal (thr d L, SemLoc.dma sm) 0 ∗ waits d L O W) -∗ wp frame (wpE (defs₀ (F := F)) 𝒱₀ (thr d L) none) Set.univ (kk ⟨⟩) Q)
      -∗ wp frame (wpE (defs₀ (F := F)) 𝒱₀ (thr d L) none) Set.univ (.op (.waitDma2 sm (bAt off' h') (oAt off h) hs hd) kk) Q) := by
  unfold outFly
  exact own_wait d L (dstw := oAt off h) rfl

theorem out_write {b : Fin 3} {r : Fin 1024} {off : Fin 3 → ℕ} {h} {off' : Fin 3 → ℕ} {h'} (hoff : off = ![0, r.val, 0]) (hoff' : off' = ![b.val, 0, 0])
    {f : S3x16x1024.Idx → Elt F .f32} (hf : Filled tb (xrow X r) b 64 0 f) (g : S16x1024x1024.Idx → Elt F .f32) :
    ∀ i ∈ oSet r, (oAt off h).view.write (Elt F) g ((ReadAs.same : ReadAs (Elt F) S16x1024 .f32 S16x1024 .f32).apply ((bAt off' h').view.read (Elt F) f)) Finset.univ i
      = gath tb X i := by
  intro i hi
  have hr : i 1 = r := mem_oSet.mp hi
  have hi' : (oAt off h).view.emb (ix2 (n0 := 16) (n1 := 1024) (i 0) (i 2)) = i := (emb_oAt r hoff (i 0) (i 2)).trans (by rw [← hr]; exact (eq_ix3 i).symm)
  have hw := View.write_emb (v := (oAt off h).view) (Val := Elt F) g ((ReadAs.same : ReadAs (Elt F) S16x1024 .f32 S16x1024 .f32).apply ((bAt off' h').view.read (Elt F) f)) Finset.univ (ix2 (n0 := 16) (n1 := 1024) (i 0) (i 2))
  rw [if_pos (Finset.mem_univ _)] at hw
  rw [hi'] at hw
  refine hw.trans ?_
  refine (congrArg f (emb_bAt (h := h') b hoff' (i 0) (i 2))).trans ?_
  rw [hf (i 0) (i 2) (Or.inl (i 2).isLt)]
  unfold gath xrow
  rw [hr]

theorem out_issue {Q : α → sProp 𝕄} (b : Fin 3) (r : Fin 1024) (sm : DmaSem sig) {off : Fin 3 → ℕ} {h} {off' : Fin 3 → ℕ} {h'} {hs hd ht} {g : S16x1024x1024.Idx → Elt F .f32}
    (hoff : off = ![0, r.val, 0]) (hoff' : off' = ![b.val, 0, 0]) :
    iprop(semVal (thr d L, SemLoc.dma sm) 0 ∗ oP d r g ∗ ∃ f, ⌜Filled tb (xrow X r) b 64 0 f⌝ ∗ bP d L b f)
      ⊢ iprop((outFly d L sm tb X b r -∗ wp frame (wpE (defs₀ (F := F)) 𝒱₀ (thr d L) none) Set.univ (kk ⟨⟩) Q)
      -∗ wp frame (wpE (defs₀ (F := F)) 𝒱₀ (thr d L) none) Set.univ
        (.op (.enqueueDma (bAt off' h') (.here (oAt off h)) (.dma sm) hs hd ht) kk) Q) := by
  iintro ⟨Hv, Ho, %f, %hf, HB⟩ Hk
  iapply (wp_dmaLocal (defs := defs₀ (F := F)) EC 𝒱₀ (thr d L) none (src := bAt off' h') (dst := oAt off h) (via := .same) (q := fullShare) (fs := f) (Sd := oSet r) (fd := g)
    none nO rfl (View.dmaCredit_pos _ (by decide)) (set_oAt r hoff).le) $$ [Hv Ho HB]
  · isplitl [HB]
    · rw [set_bAt b hoff']; iexact HB
    isplitl [Ho] <;> iassumption
  iintro HF
  iapply Hk
  unfold outFly
  iapply (Flight_mono EC (thr d L) ?_) $$ HF
  iintro ⟨Ho, HB⟩
  isplitl [Ho]
  · iapply (Entails.of_eq (pointsTo_congr (out_write hoff hoff' hf g))) $$ Ho
  · rw [set_bAt b hoff']; iexists f; iexact HB
end steps
end
end Cert.Proof.Bias
-- ==== Proof.Tile.lean ====
/-
  One row after another: the gather loops, and a trip of the outer loop over three rows.
-/
module

public import proofs.«01_k».proof.Proof.Flights

@[expose] public section

noncomputable section

namespace Cert.Proof.Bias

open Cert.KernelIdeal Cert.KernelIdeal.Gen
open Idealize.ShloMosaic
open Idealize.ShloMosaic.SparseCore (S V T)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.SparseCore.Cfg (HIx)

variable {F : FTy → Type}

local notation "𝕄" => MT nD τ sig (HIx 1) (Elt F) ℕ UU ℕ

section
variable (d : Dev nD) (L : grid0.Coords) [FloatOps F]

/-! ## Families over the tile's rows -/

/-- The rows from `n` on, and those below `n`. -/
def fromR (n : ℕ) : Finset (Fin 32) := Finset.univ.filter fun k : Fin 32 => n ≤ k.val
def belowR (n : ℕ) : Finset (Fin 32) := Finset.univ.filter fun k : Fin 32 => k.val < n
theorem fromR_zero : fromR 0 = Finset.univ := Finset.filter_true_of_mem fun _ _ => Nat.zero_le _
theorem belowR_zero : belowR 0 = ∅ := Finset.filter_false_of_mem fun _ _ => Nat.not_lt_zero _
theorem belowR_all : belowR 32 = Finset.univ := Finset.filter_true_of_mem fun k _ => k.isLt
theorem fromR_all : fromR 32 = ∅ := Finset.filter_false_of_mem fun k _ => Nat.not_le.2 k.isLt
theorem bigSep_fromR (n : ℕ) (hn : n < 32) (Φ : Fin 32 → sProp 𝕄) : bigSep (fromR n) Φ = iprop(Φ ⟨n, hn⟩ ∗ bigSep (fromR (n + 1)) Φ) := by
  have e : fromR n = insert ⟨n, hn⟩ (fromR (n + 1)) := by
    ext k; simp only [fromR, Finset.mem_filter, Finset.mem_univ, true_and, Finset.mem_insert, Fin.ext_iff]; omega
  rw [e, SparseCore.bigSep_insert' (by simp [fromR])]
theorem bigSep_belowR (n : ℕ) (hn : n < 32) (Φ : Fin 32 → sProp 𝕄) : bigSep (belowR (n + 1)) Φ = iprop(Φ ⟨n, hn⟩ ∗ bigSep (belowR n) Φ) := by
  have e : belowR (n + 1) = insert ⟨n, hn⟩ (belowR n) := by
    ext k; simp only [belowR, Finset.mem_filter, Finset.mem_univ, true_and, Finset.mem_insert, Fin.ext_iff]; omega
  rw [e, SparseCore.bigSep_insert' (by simp [belowR])]
attribute [irreducible] fromR belowR

/-- The result's rows not yet sent for, and those that have arrived. -/
abbrev todo (g : S16x1024x1024.Idx → Elt F .f32) (n : ℕ) : sProp 𝕄 := bigSep (fromR n) fun k => oP d (row L k.val) g
abbrev done (tb : S16x3969.Idx → Elt F .f32) (X : S1024x1024.Idx → BitVec 32) (n : ℕ) : sProp 𝕄 := bigSep (belowR n) fun k => oP d (row L k.val) (gath tb X)

theorem iHas_any {X : S1024x1024.Idx → BitVec 32} {b : Fin 3} {r : Fin 1024} : (iHas d L X b r : sProp 𝕄) ⊢ iAny d L b := by
  iintro ⟨%f, -, H⟩
  iexists f; iexact H

/-! ## A gather loop -/

theorem gather_loop {α : Type} {Q : α → sProp 𝕄} {tb : S16x3969.Idx → Elt F .f32} {X : S1024x1024.Idx → BitVec 32} (b : Fin 3) (r : Fin 1024)
    {lb ub st : BitVec 32} {hok : Scf.OK lb ub st} {body : Fin (Scf.trips lb ub st) → Unit → Prog (TpuEff nD τ sig (Elt F) Λ₀ (.scVector (cV L) (jV L))) Unit}
    {kk : Unit → Prog (TpuEff nD τ sig (Elt F) Λ₀ (.scVector (cV L) (jV L))) α} (h64 : Scf.trips lb ub st = 64)
    (hbody : ∀ k, tripI d L tb (xrow X r) b k.val ⊢ wp frame (wpE (defs₀ (F := F)) 𝒱₀ (thr d L) none) Set.univ (body k ())
      fun _ => tripI d L tb (xrow X r) b (k.val + 1)) :
    iprop(tP d L tb ∗ iHas d L X b r ∗ bAny d L b)
      ⊢ iprop((iprop(tP d L tb ∗ iHas d L X b r ∗ ∃ f, ⌜Filled tb (xrow X r) b 64 0 f⌝ ∗ bP d L b f)
          -∗ wp frame (wpE (defs₀ (F := F)) 𝒱₀ (thr d L) none) Set.univ (kk ()) Q)
        -∗ wp frame (wpE (defs₀ (F := F)) 𝒱₀ (thr d L) none) Set.univ (Scf.for lb ub st hok () body >>= kk) Q) := by
  iintro ⟨HT, HI, %f, HB⟩ Hk
  iapply (Scf.wp_for_bind frame (wpE (defs₀ (F := F)) 𝒱₀ (thr d L) none) Set.univ lb ub st hok () body
    (fun k _ => tripI d L tb (xrow X r) b k) (fun k _ => hbody k)) $$ [HT HI HB]
  · isplitl [HT]; · iexact HT
    isplitl [HI]; · iexact HI
    iexists f
    isplitr; · ipureintro; exact filled_zero _ _ _ _
    iexact HB
  iintro %_ HI
  rw [h64]
  iapply Hk $$ HI

/-- Before trip `i` an output buffer is free, at the first, and then on its way out with the row of the trip before. -/
def outSt (sm : DmaSem sig) (tb : S16x3969.Idx → Elt F .f32) (X : S1024x1024.Idx → BitVec 32) (b : Fin 3) : ℕ → sProp 𝕄
  | 0 => outFree d L sm b
  | i + 1 => outFly d L sm tb X b (row L (3 * i + b.val))

/-- Before a buffer is filled again its copy out, if there is one, is waited for. -/
theorem drain {α β : Type} {Q : α → sProp 𝕄} {tb : S16x3969.Idx → Elt F .f32} {X : S1024x1024.Idx → BitVec 32} {O : CellTallies nD τ sig (HIx 1)} {W : Waits sig (HIx 1)}
    (b : Fin 3) (i : ℕ) (hi : i < 10) (sm : DmaSem sig) {c : Prop} {dec : Decidable c} (hc : c ↔ i ≠ 0) {off : Fin 3 → ℕ} {h : c → ∀ a, off a + S16x1x1024.size a ≤ S16x1024x1024.size a}
    {off' : Fin 3 → ℕ} {h'} {hs : ∀ _ : c, (bAt off' h').view.WordExact} {hd : ∀ w : c, (oAt off (h w)).view.WordExact}
    {k : Prog (TpuEff nD τ sig (Elt F) Λ₀ (.scVector (cV L) (jV L))) β} {kk : β → Prog (TpuEff nD τ sig (Elt F) Λ₀ (.scVector (cV L) (jV L))) α} :
    iprop(outSt d L sm tb X b i ∗ done d L tb X (3 * i + b.val - 3) ∗ waits d L O W)
      ⊢ iprop((iprop(outFree d L sm b ∗ done d L tb X (3 * i + b.val + 1 - 3) ∗ waits d L O W) -∗ wp frame (wpE (defs₀ (F := F)) 𝒱₀ (thr d L) none) Set.univ (k >>= kk) Q)
        -∗ wp frame (wpE (defs₀ (F := F)) 𝒱₀ (thr d L) none) Set.univ
          ((if w : c then Prog.op (.waitDma2 sm (bAt off' h') (oAt off (h w)) (hs w) (hd w)) fun _ => k else k) >>= kk) Q) := by
  have hb := b.isLt
  match i with
  | 0 =>
    rw [dif_neg (fun w => hc.mp w rfl), show 3 * 0 + b.val - 3 = 0 by omega, show 3 * 0 + b.val + 1 - 3 = 0 by omega]
    unfold outSt
    iintro H Hk
    iapply Hk $$ H
  | i + 1 =>
    have hw : c := hc.mpr (Nat.succ_ne_zero i)
    rw [dif_pos hw, Prog.bind_op, show 3 * (i + 1) + b.val - 3 = 3 * i + b.val by omega, show 3 * (i + 1) + b.val + 1 - 3 = 3 * i + b.val + 1 by omega]
    unfold outSt
    iintro ⟨HF, HD, HW⟩ Hk
    iapply (out_wait d L b (row L (3 * i + b.val)) sm (kk := fun _ => k >>= kk)) $$ [HF HW]
    · isplitl [HF] <;> iassumption
    iintro ⟨⟨Ho, Hb⟩, Hv, HW⟩
    iapply Hk
    isplitl [Hv Hb]
    · isplitl [Hv] <;> iassumption
    isplitl [Ho HD]
    · iapply (Entails.of_eq (bigSep_belowR (3 * i + b.val) (by omega) fun k => oP d (row L k.val) (gath tb X)).symm)
      isplitl [Ho] <;> iassumption
    · iexact HW

theorem cond_next : ∀ t : Fin k0_t1_loop.trips, k0_cond1 t = 1#1 ∧ k0_cond3 t = 1#1 ∧ k0_cond5 t = 1#1 := by decide +kernel
theorem cond_drain : ∀ t : Fin k0_t1_loop.trips, (k0_cond2 t = 1#1 ↔ t.val ≠ 0) ∧ (k0_cond4 t = 1#1 ↔ t.val ≠ 0) ∧ (k0_cond6 t = 1#1 ↔ t.val ≠ 0) := by decide +kernel

variable (tb : S16x3969.Idx → Elt F .f32) (X : S1024x1024.Idx → BitVec 32) (g : S16x1024x1024.Idx → Elt F .f32)
  (q0 q1 q2 : PosShare TreeShare) (O : CellTallies nD τ sig (HIx 1)) (W : Waits sig (HIx 1))
/-- What is held before trip `i` of the outer loop. -/
def outerI (i : ℕ) : sProp 𝕄 :=
  iprop(tP d L tb ∗ waits d L O W
    ∗ idxFly d L cc0_scratch3.sem q0 X 0 (row L (3 * i)) ∗ idxFly d L cc0_scratch4.sem q1 X 1 (row L (3 * i + 1)) ∗ idxFree d L cc0_scratch5.sem q2 X 2
    ∗ outSt d L cc0_scratch6.sem tb X 0 i ∗ outSt d L cc0_scratch7.sem tb X 1 i ∗ outSt d L cc0_scratch8.sem tb X 2 i
    ∗ todo d L g (3 * i) ∗ done d L tb X (3 * i - 3))

variable (hX : ∀ i, (X i).toNat < 3969)

/-- The offsets of a trip's copies, by the row they name. -/
theorem xoff_row {off : Fin 2 → ℕ} {n m : ℕ} (hn : n < 32) (h : off = ![m, 0]) (hm : m = 64 * (L 1).val + 32 * (L 0).val + n) : off = ![(row L n).val, 0] := by
  rw [row_val L hn, ← hm]; exact h
theorem ooff_row {off : Fin 3 → ℕ} {n m : ℕ} (hn : n < 32) (h : off = ![0, m, 0]) (hm : m = 64 * (L 1).val + 32 * (L 0).val + n) : off = ![0, (row L n).val, 0] := by
  rw [row_val L hn, ← hm]; exact h

include hX in
theorem outer_trip (v2 : BitVec 32) (t : Fin k0_t1_loop.trips) :
    outerI d L tb X g q0 q1 q2 O W t.val ⊢ wp frame (wpE (defs₀ (F := F)) 𝒱₀ (thr d L) none) Set.univ
      (k0_t1_body L tV (Memref.isWhole_whole _) xV (Memref.isWhole_whole _) oV (Memref.isWhole_whole _) sT (Memref.isWhole_whole _) sI (Memref.isWhole_whole _)
        sO (Memref.isWhole_whole _) cc0_scratch3 cc0_scratch4 cc0_scratch5 cc0_scratch6 cc0_scratch7 cc0_scratch8 cc0_scoped0 v2 t ())
      fun _ => outerI d L tb X g q0 q1 q2 O W (t.val + 1) := by
  simp only [k0_t1_body, k0_part13_eq_skeleton, k0_part13_skel, k0_part14_eq_skeleton, k0_part14_skel, k0_part15_eq_skeleton, k0_part15_skel, Prog.lift, Prog.bind_op, Prog.bind_ret, Prog.pure_eq_ret, Prog.bind_assoc]
  simp only [dif_pos (cond_next t).1, dif_pos (cond_next t).2.1, dif_pos (cond_next t).2.2, Prog.bind_op]
  have ht : t.val < 10 := lt_of_lt_of_le t.isLt (show k0_t1_loop.trips ≤ 10 by decide)
  unfold outerI
  iintro ⟨HT, HW, HI0, HI1, ⟨Hv2, HX2, HI2⟩, HO0, HO1, HO2, Htd, Hdn⟩
  -- row `3 * t.val`
  iapply (idx_wait d L 0 (row L (3 * t.val)) cc0_scratch3.sem) $$ [HI0 HW]
  · isplitl [HI0] <;> iassumption
  iintro ⟨⟨HI0, HX0⟩, Hv0, HW⟩
  iapply (idx_issue d L 2 (row L (3 * t.val + 2)) cc0_scratch5.sem ?h01 ?h02) $$ [Hv2 HX2 HI2]
  case h01 => exact xoff_row L (by omega) (k0_off4_eq L t) (by omega)
  case h02 => rfl
  · isplitl [Hv2]; · iexact Hv2
    isplitl [HX2]; · iexact HX2
    iexact HI2
  iintro HI2
  iapply (drain d L 0 t.val ht cc0_scratch6.sem (cond_drain t).1) $$ [HO0 Hdn HW]
  · isplitl [HO0]; · iexact HO0
    isplitl [Hdn] <;> iassumption
  iintro ⟨⟨Hw0, HB0⟩, Hdn, HW⟩
  rw [Prog.bind_assoc]
  iapply (gather_loop d L 0 (row L (3 * t.val)) (by decide) fun k => trip_t2 d L (fun x => hX _) v2 _ _ t k) $$ [HT HI0 HB0]
  · isplitl [HT]; · iexact HT
    isplitl [HI0] <;> iassumption
  iintro ⟨HT, HI0, HB0⟩
  ihave HI0 := (iHas_any d L) $$ HI0
  rw [Prog.bind_ret]
  ihave Htd' := (Entails.of_eq (bigSep_fromR (3 * t.val) (by omega) _)) $$ Htd
  icases Htd' with ⟨Ho, Htd⟩
  iapply (out_issue d L 0 (row L (3 * t.val)) cc0_scratch6.sem ?h03 ?h04) $$ [Hw0 Ho HB0]
  case h03 => exact ooff_row L (by omega) (k0_off23_eq L t 0) (show _ + 0 = _ by omega)
  case h04 => rfl
  · isplitl [Hw0]; · iexact Hw0
    isplitl [Ho] <;> iassumption
  iintro HO0
  -- row `3 * t.val + 1`
  iapply (idx_wait d L 1 (row L (3 * t.val + 1)) cc0_scratch4.sem) $$ [HI1 HW]
  · isplitl [HI1] <;> iassumption
  iintro ⟨⟨HI1, HX1⟩, Hv1, HW⟩
  iapply (idx_issue d L 0 (row L (3 * t.val + 3)) cc0_scratch3.sem ?h11 ?h12) $$ [Hv0 HX0 HI0]
  case h11 => exact xoff_row L (by omega) (k0_off24_eq L t) (by omega)
  case h12 => rfl
  · isplitl [Hv0]; · iexact Hv0
    isplitl [HX0]; · iexact HX0
    iexact HI0
  iintro HI0
  iapply (drain d L 1 t.val ht cc0_scratch7.sem (cond_drain t).2.1) $$ [HO1 Hdn HW]
  · isplitl [HO1]; · iexact HO1
    isplitl [Hdn] <;> iassumption
  iintro ⟨⟨Hw1, HB1⟩, Hdn, HW⟩
  rw [Prog.bind_assoc]
  iapply (gather_loop d L 1 (row L (3 * t.val + 1)) (by decide) fun k => trip_t3 d L (fun x => hX _) v2 t _ k) $$ [HT HI1 HB1]
  · isplitl [HT]; · iexact HT
    isplitl [HI1] <;> iassumption
  iintro ⟨HT, HI1, HB1⟩
  ihave HI1 := (iHas_any d L) $$ HI1
  rw [Prog.bind_ret]
  ihave Htd' := (Entails.of_eq (bigSep_fromR (3 * t.val + 1) (by omega) _)) $$ Htd
  icases Htd' with ⟨Ho, Htd⟩
  iapply (out_issue d L 1 (row L (3 * t.val + 1)) cc0_scratch7.sem ?h13 ?h14) $$ [Hw1 Ho HB1]
  case h13 => exact ooff_row L (by omega) (k0_off23_eq L t 1) (show _ + 1 = _ by omega)
  case h14 => rfl
  · isplitl [Hw1]; · iexact Hw1
    isplitl [Ho] <;> iassumption
  iintro HO1
  -- row `3 * t.val + 2`
  iapply (idx_wait d L 2 (row L (3 * t.val + 2)) cc0_scratch5.sem) $$ [HI2 HW]
  · isplitl [HI2] <;> iassumption
  iintro ⟨⟨HI2, HX2⟩, Hv2, HW⟩
  iapply (idx_issue d L 1 (row L (3 * t.val + 4)) cc0_scratch4.sem ?h21 ?h22) $$ [Hv1 HX1 HI1]
  case h21 => exact xoff_row L (by omega) (k0_off43_eq L t) (by omega)
  case h22 => rfl
  · isplitl [Hv1]; · iexact Hv1
    isplitl [HX1]; · iexact HX1
    iexact HI1
  iintro HI1
  iapply (drain d L 2 t.val ht cc0_scratch8.sem (cond_drain t).2.2) $$ [HO2 Hdn HW]
  · isplitl [HO2]; · iexact HO2
    isplitl [Hdn] <;> iassumption
  iintro ⟨⟨Hw2, HB2⟩, Hdn, HW⟩
  rw [Prog.bind_assoc]
  iapply (gather_loop d L 2 (row L (3 * t.val + 2)) (by decide) fun k => trip_t4 d L (fun x => hX _) v2 t _ k) $$ [HT HI2 HB2]
  · isplitl [HT]; · iexact HT
    isplitl [HI2] <;> iassumption
  iintro ⟨HT, HI2, HB2⟩
  ihave HI2 := (iHas_any d L) $$ HI2
  rw [Prog.bind_ret]
  ihave Htd' := (Entails.of_eq (bigSep_fromR (3 * t.val + 2) (by omega) _)) $$ Htd
  icases Htd' with ⟨Ho, Htd⟩
  iapply (out_issue d L 2 (row L (3 * t.val + 2)) cc0_scratch8.sem ?h23 ?h24) $$ [Hw2 Ho HB2]
  case h23 => exact ooff_row L (by omega) (k0_off23_eq L t 2) (show _ + 2 = _ by omega)
  case h24 => rfl
  · isplitl [Hw2]; · iexact Hw2
    isplitl [Ho] <;> iassumption
  iintro HO2
  rw [wp_ret]
  imodintro
  isplitl [HT]; · iexact HT
  isplitl [HW]; · iexact HW
  isplitl [HI0]; · iexact HI0
  isplitl [HI1]; · iexact HI1
  isplitl [Hv2 HX2 HI2]
  · isplitl [Hv2]; · iexact Hv2
    isplitl [HX2] <;> iassumption
  unfold outSt
  isplitl [HO0]; · iexact HO0
  isplitl [HO1]; · iexact HO1
  isplitl [HO2]; · iexact HO2
  isplitl [Htd]; · iexact Htd
  iexact Hdn

theorem done_next {tb : S16x3969.Idx → Elt F .f32} {X : S1024x1024.Idx → BitVec 32} {n : ℕ} (hn : n < 32) :
    iprop(oP d (row L n) (gath tb X) ∗ done d L tb X n) ⊢ done d L tb X (n + 1) :=
  Entails.of_eq (bigSep_belowR n hn fun k => oP d (row L k.val) (gath tb X)).symm

/-- What the tile is lent: a share of the table and shares of the index matrix, its own scratch and semaphores. -/
abbrev tileHas (qt : PosShare TreeShare) : sProp 𝕄 :=
  iprop((tLoc d ↦{qt} tb) ∗ (∃ f, tP d L f) ∗ semVal (thr d L, SemLoc.dma cc0_scoped0.sem) 0
    ∗ idxFree d L cc0_scratch3.sem q0 X 0 ∗ idxFree d L cc0_scratch4.sem q1 X 1 ∗ idxFree d L cc0_scratch5.sem q2 X 2
    ∗ outFree d L cc0_scratch6.sem 0 ∗ outFree d L cc0_scratch7.sem 1 ∗ outFree d L cc0_scratch8.sem 2 ∗ waits d L O W)

include hX in
theorem tile_run (qt : PosShare TreeShare) :
    iprop(tileHas d L tb X q0 q1 q2 O W qt ∗ todo d L g 0) ⊢ wp frame (wpE (defs₀ (F := F)) 𝒱₀ (thr d L) none) Set.univ
      (cc0_gather_kernel L tV (Memref.isWhole_whole _) xV (Memref.isWhole_whole _) oV (Memref.isWhole_whole _) sT (Memref.isWhole_whole _) sI (Memref.isWhole_whole _)
        sO (Memref.isWhole_whole _) cc0_scratch3 cc0_scratch4 cc0_scratch5 cc0_scratch6 cc0_scratch7 cc0_scratch8 cc0_scoped0)
      fun _ => iprop(tileHas d L tb X q0 q1 q2 O W qt ∗ done d L tb X 32) := by
  simp only [cc0_gather_kernel_eq_skeleton, cc0_gather_kernel_skel, k0_part24_eq_skeleton, k0_part24_skel, k0_part25_eq_skeleton, k0_part25_skel, k0_part26_eq_skeleton, k0_part26_skel, k0_part27_eq_skeleton, k0_part27_skel, Prog.lift, Prog.bind_op, Prog.bind_ret, Prog.pure_eq_ret, Prog.bind_assoc]
  iintro ⟨⟨Ht, ⟨%f, HT⟩, Hvt, HI0, HI1, HI2, HO0, HO1, HO2, HW⟩, Htd⟩
  -- the table's copy
  iapply (wp_dmaLocal (defs := defs₀ (F := F)) EC 𝒱₀ (thr d L) none (src := tV) (dst := sT) (via := .same) (q := qt) (fs := tb) (Sd := Finset.univ) (fd := f)
    none _ rfl (View.dmaCredit_pos _ (by decide)) (Finset.subset_univ _)) $$ [Ht HT Hvt]
  · isplitl [Ht]
    · rw [View.set_whole]; iexact Ht
    isplitl [HT] <;> iassumption
  iintro HF
  iapply (own_wait d L (dstw := sT) rfl) $$ [HF HW]
  · isplitl [HF] <;> iassumption
  iintro ⟨⟨HT, Ht⟩, Hvt, HW⟩
  rw [View.set_whole, View.write_whole_univ]
  -- the first two rows' copies
  iapply (idx_issue d L 0 (row L 0) cc0_scratch3.sem ?h1 ?h2) $$ HI0
  case h1 => exact xoff_row L (by decide) (k0_off1_eq L) (by omega)
  case h2 => rfl
  iintro HI0
  iapply (idx_issue d L 1 (row L 1) cc0_scratch4.sem ?h3 ?h4) $$ HI1
  case h3 => exact xoff_row L (by decide) (k0_off2_eq L) (by omega)
  case h4 => rfl
  iintro HI1
  ihave Hdn : done d L tb X 0 $$ []
  · unfold done; rw [belowR_zero, bigSep_empty]; iempintro
  iapply (Scf.wp_for_bind frame (wpE (defs₀ (F := F)) 𝒱₀ (thr d L) none) Set.univ k0_t1_loop.lb k0_t1_loop.ub k0_t1_loop.st k0_t1_ok () _
    (fun k _ => outerI d L tb X g q0 q1 q2 O W k) (fun k _ => outer_trip d L tb X g q0 q1 q2 O W hX _ k)) $$ [HT HW HI0 HI1 HI2 HO0 HO1 HO2 Htd Hdn]
  · unfold outerI outSt
    isplitl [HT]; · iexact HT
    isplitl [HW]; · iexact HW
    isplitl [HI0]; · iexact HI0
    isplitl [HI1]; · iexact HI1
    isplitl [HI2]; · iexact HI2
    isplitl [HO0]; · iexact HO0
    isplitl [HO1]; · iexact HO1
    isplitl [HO2]; · iexact HO2
    isplitl [Htd] <;> iassumption
  iintro %_ HI
  rw [show Scf.trips k0_t1_loop.lb k0_t1_loop.ub k0_t1_loop.st = 9 + 1 by decide]
  unfold outerI outSt
  icases HI with ⟨HT, HW, HI0, HI1, ⟨Hv2, HX2, HI2⟩, HO0, HO1, HO2, Htd, Hdn⟩
  -- row `30`
  iapply (idx_wait d L 0 (row L 30) cc0_scratch3.sem) $$ [HI0 HW]
  · isplitl [HI0] <;> iassumption
  iintro ⟨⟨HI0, HX0⟩, Hv0, HW⟩
  iapply (out_wait d L 0 (row L 27) cc0_scratch6.sem) $$ [HO0 HW]
  · isplitl [HO0] <;> iassumption
  iintro ⟨⟨Ho, HB0⟩, Hw0, HW⟩
  ihave Hdn := (done_next d L (n := 27) (by decide)) $$ [Ho Hdn]
  · isplitl [Ho] <;> iassumption
  iapply (gather_loop d L 0 (row L 30) (by decide) fun k => trip_t5 d L (fun x => hX _) _ _ k) $$ [HT HI0 HB0]
  · isplitl [HT]; · iexact HT
    isplitl [HI0] <;> iassumption
  iintro ⟨HT, HI0, HB0⟩
  ihave HI0 := (iHas_any d L) $$ HI0
  ihave Htd' := (Entails.of_eq (bigSep_fromR 30 (by decide) _)) $$ Htd
  icases Htd' with ⟨Ho, Htd⟩
  iapply (out_issue d L 0 (row L 30) cc0_scratch6.sem ?h03 ?h04) $$ [Hw0 Ho HB0]
  case h03 => exact ooff_row L (by decide) (k0_off81_eq L 0) (show _ + 0 + 30 = _ by omega)
  case h04 => rfl
  · isplitl [Hw0]; · iexact Hw0
    isplitl [Ho] <;> iassumption
  iintro HO0
  -- row `31`
  iapply (idx_wait d L 1 (row L 31) cc0_scratch4.sem) $$ [HI1 HW]
  · isplitl [HI1] <;> iassumption
  iintro ⟨⟨HI1, HX1⟩, Hv1, HW⟩
  iapply (out_wait d L 1 (row L 28) cc0_scratch7.sem) $$ [HO1 HW]
  · isplitl [HO1] <;> iassumption
  iintro ⟨⟨Ho, HB1⟩, Hw1, HW⟩
  ihave Hdn := (done_next d L (n := 28) (by decide)) $$ [Ho Hdn]
  · isplitl [Ho] <;> iassumption
  iapply (gather_loop d L 1 (row L 31) (by decide) fun k => trip_t6 d L (fun x => hX _) _ _ k) $$ [HT HI1 HB1]
  · isplitl [HT]; · iexact HT
    isplitl [HI1] <;> iassumption
  iintro ⟨HT, HI1, HB1⟩
  ihave HI1 := (iHas_any d L) $$ HI1
  ihave Htd' := (Entails.of_eq (bigSep_fromR 31 (by decide) _)) $$ Htd
  icases Htd' with ⟨Ho, Htd⟩
  iapply (out_issue d L 1 (row L 31) cc0_scratch7.sem ?h13 ?h14) $$ [Hw1 Ho HB1]
  case h13 => exact ooff_row L (by decide) (k0_off81_eq L 1) (show _ + 1 + 30 = _ by omega)
  case h14 => rfl
  · isplitl [Hw1]; · iexact Hw1
    isplitl [Ho] <;> iassumption
  iintro HO1
  -- the last three rows' arrivals
  iapply (out_wait d L 2 (row L 29) cc0_scratch8.sem) $$ [HO2 HW]
  · isplitl [HO2] <;> iassumption
  iintro ⟨⟨Ho, HB2⟩, Hw2, HW⟩
  ihave Hdn := (done_next d L (n := 29) (by decide)) $$ [Ho Hdn]
  · isplitl [Ho] <;> iassumption
  iapply (out_wait d L 0 (row L 30) cc0_scratch6.sem) $$ [HO0 HW]
  · isplitl [HO0] <;> iassumption
  iintro ⟨⟨Ho, HB0⟩, Hw0, HW⟩
  ihave Hdn := (done_next d L (n := 30) (by decide)) $$ [Ho Hdn]
  · isplitl [Ho] <;> iassumption
  iapply (out_wait d L 1 (row L 31) cc0_scratch7.sem) $$ [HO1 HW]
  · isplitl [HO1] <;> iassumption
  iintro ⟨⟨Ho, HB1⟩, Hw1, HW⟩
  ihave Hdn := (done_next d L (n := 31) (by decide)) $$ [Ho Hdn]
  · isplitl [Ho] <;> iassumption
  rw [wp_ret]
  imodintro
  isplitr [Hdn]
  · isplitl [Ht]; · iexact Ht
    isplitl [HT]; · iexists tb; iexact HT
    isplitl [Hvt]; · iexact Hvt
    isplitl [Hv0 HX0 HI0]
    · isplitl [Hv0]; · iexact Hv0
      isplitl [HX0] <;> iassumption
    isplitl [Hv1 HX1 HI1]
    · isplitl [Hv1]; · iexact Hv1
      isplitl [HX1] <;> iassumption
    isplitl [Hv2 HX2 HI2]
    · isplitl [Hv2]; · iexact Hv2
      isplitl [HX2] <;> iassumption
    isplitl [Hw0 HB0]
    · isplitl [Hw0] <;> iassumption
    isplitl [Hw1 HB1]
    · isplitl [Hw1] <;> iassumption
    isplitl [Hw2 HB2]
    · isplitl [Hw2] <;> iassumption
    iexact HW
  · iexact Hdn
end
end Cert.Proof.Bias
-- ==== Proof.Launch.lean ====
/-
  The launch: what each vector subcore is lent and gives back, the two SparseCores' shares of the arrays, and the
  run of the whole program.
-/
module

public import proofs.«01_k».proof.Proof.Tile

@[expose] public section

noncomputable section

namespace Cert.Proof.Bias

open Cert.KernelIdeal Cert.KernelIdeal.Gen
open Idealize.ShloMosaic
open Idealize.ShloMosaic.SparseCore (S V T)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.SparseCore.Cfg (HIx)

variable {F : FTy → Type}

local notation "𝕄" => MT nD τ sig (HIx 1) (Elt F) ℕ UU ℕ

/-! ## A subcore's semaphores and buffers -/

section
variable (d : Dev nD) (L : grid0.Coords)

/-- The semaphores the kernel names, all a subcore's own. -/
def kSems : Finset (SemLoc sig) :=
  {SemLoc.dma cc0_scoped0.sem, SemLoc.dma cc0_scratch3.sem, SemLoc.dma cc0_scratch4.sem, SemLoc.dma cc0_scratch5.sem,
    SemLoc.dma cc0_scratch6.sem, SemLoc.dma cc0_scratch7.sem, SemLoc.dma cc0_scratch8.sem}

def cellOf : SemLoc sig ↪ GSem nD τ sig := ⟨fun sm => (thr d L, sm), fun _ _ e => (Prod.mk.inj e).2⟩

theorem kSems_own : kSems.map (cellOf d L) ⊆ SparseCore.Cfg.ownCells (thr d L) := by
  intro g hg
  obtain ⟨sm, hsm, rfl⟩ := Finset.mem_map.mp hg
  refine SparseCore.Cfg.mem_ownCells.mpr ⟨rfl, ?_⟩
  show sm.isScoped .scVector = true
  clear hg
  revert sm
  decide

/-- The rest of a subcore's semaphores. -/
abbrev semRest : sProp 𝕄 := bigSep (SparseCore.Cfg.ownCells (thr d L) \ kSems.map (cellOf d L)) fun g => semVal g 0

theorem ownSems0_eq : (SparseCore.Cfg.ownSems0 (thr d L) : sProp 𝕄)
    = iprop((semVal (thr d L, SemLoc.dma cc0_scoped0.sem) 0 ∗ semVal (thr d L, SemLoc.dma cc0_scratch3.sem) 0
        ∗ semVal (thr d L, SemLoc.dma cc0_scratch4.sem) 0 ∗ semVal (thr d L, SemLoc.dma cc0_scratch5.sem) 0
        ∗ semVal (thr d L, SemLoc.dma cc0_scratch6.sem) 0 ∗ semVal (thr d L, SemLoc.dma cc0_scratch7.sem) 0
        ∗ semVal (thr d L, SemLoc.dma cc0_scratch8.sem) 0) ∗ semRest d L) := by
  unfold SparseCore.Cfg.ownSems0
  rw [bigSep_sdiff_split (kSems_own d L), bigSep_map]
  refine congrArg (fun P : sProp 𝕄 => iprop(P ∗ semRest d L)) ?_
  unfold kSems
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

abbrev pV : Proc τ := Proc.scVector (cV L) (jV L)
/-- The rest of a subcore's buffers. -/
abbrev bufRest : sProp 𝕄 :=
  bigSep ((((SparseCore.Cfg.ownRefs (τ := τ) (sig := sig) (pV L)).erase ((pV L).devRef cc0_scratch0)).erase ((pV L).devRef cc0_scratch1)).erase ((pV L).devRef cc0_scratch2))
    fun b => iprop(∃ f, ((d, b) : Loc nD τ sig) ↦{fullShare} f)

theorem ownBufs_eq : (SparseCore.Cfg.ownBufs (thr d L) : sProp 𝕄)
    = iprop((∃ f, (thr d L).loc cc0_scratch0 ↦{fullShare} f) ∗ (∃ f, (thr d L).loc cc0_scratch1 ↦{fullShare} f)
        ∗ (∃ f, (thr d L).loc cc0_scratch2 ↦{fullShare} f) ∗ bufRest d L) := by
  unfold SparseCore.Cfg.ownBufs
  refine (SparseCore.bigSep_erase' (SparseCore.Cfg.mem_ownRefs_of_owner (p := pV L) (b := (pV L).devRef cc0_scratch0) rfl)).trans ?_
  rw [SparseCore.bigSep_erase' (Finset.mem_erase.mpr
      ⟨fun e => absurd (Proc.devRef_injective _ e) (show (cc0_scratch1 : Ref sig .scVector) ≠ cc0_scratch0 by decide),
        SparseCore.Cfg.mem_ownRefs_of_owner (p := pV L) (b := (pV L).devRef cc0_scratch1) rfl⟩),
    SparseCore.bigSep_erase' (Finset.mem_erase.mpr
      ⟨fun e => absurd (Proc.devRef_injective _ e) (show (cc0_scratch2 : Ref sig .scVector) ≠ cc0_scratch1 by decide),
        Finset.mem_erase.mpr ⟨fun e => absurd (Proc.devRef_injective _ e) (show (cc0_scratch2 : Ref sig .scVector) ≠ cc0_scratch0 by decide),
          SparseCore.Cfg.mem_ownRefs_of_owner (p := pV L) (b := (pV L).devRef cc0_scratch2) rfl⟩⟩)]

theorem three (Φ : Fin 3 → sProp 𝕄) : bigSep Finset.univ Φ = iprop(Φ 0 ∗ Φ 1 ∗ Φ 2) := by
  rw [show (Finset.univ : Finset (Fin 3)) = {0, 1, 2} by decide, SparseCore.bigSep_insert' (by decide), SparseCore.bigSep_insert' (by decide), bigSep_singleton]

theorem iSet_disjoint : ∀ a ∈ (Finset.univ : Finset (Fin 3)), ∀ b ∈ (Finset.univ : Finset (Fin 3)), a ≠ b → Disjoint (iSet a) (iSet b) :=
  fun a _ b _ h => Finset.disjoint_left.mpr fun i ha hb => h ((mem_iSet.mp ha).symm.trans (mem_iSet.mp hb))
theorem iSet_cover : (Finset.univ : Finset (Fin 3)).biUnion iSet = Finset.univ :=
  Finset.eq_univ_iff_forall.mpr fun i => Finset.mem_biUnion.mpr ⟨i 0, Finset.mem_univ _, mem_iSet.mpr rfl⟩
theorem bSet_disjoint : ∀ a ∈ (Finset.univ : Finset (Fin 3)), ∀ b ∈ (Finset.univ : Finset (Fin 3)), a ≠ b → Disjoint (bSet a) (bSet b) :=
  fun a _ b _ h => Finset.disjoint_left.mpr fun i ha hb => h ((mem_bSet.mp ha).symm.trans (mem_bSet.mp hb))
theorem bSet_cover : (Finset.univ : Finset (Fin 3)).biUnion bSet = Finset.univ :=
  Finset.eq_univ_iff_forall.mpr fun i => Finset.mem_biUnion.mpr ⟨i 0, Finset.mem_univ _, mem_bSet.mpr rfl⟩

/-- The index buffers and the output buffers, one by one and together. -/
theorem iBufs_split : (iprop(∃ f, (thr d L).loc cc0_scratch1 ↦{fullShare} f) : sProp 𝕄) ⊢ iprop(iAny d L 0 ∗ iAny d L 1 ∗ iAny d L 2) := by
  iintro ⟨%f, H⟩
  ihave H' := (Entails.of_eq (show ((thr d L).loc cc0_scratch1 ↦{fullShare} f : sProp 𝕄) = iprop(iP d L 0 f ∗ iP d L 1 f ∗ iP d L 2 f) from by
    rw [← three (fun b => iP d L b f), ← pointsTo_biUnion Finset.univ (ℓ := (thr d L).loc cc0_scratch1) iSet iSet_disjoint, iSet_cover]; try rfl)) $$ H
  icases H' with ⟨H0, H1, H2⟩
  isplitl [H0]; · iexists f; iexact H0
  isplitl [H1]; · iexists f; iexact H1
  iexists f; iexact H2

theorem bBufs_split : (iprop(∃ f, (thr d L).loc cc0_scratch2 ↦{fullShare} f) : sProp 𝕄) ⊢ iprop(bAny d L 0 ∗ bAny d L 1 ∗ bAny d L 2) := by
  iintro ⟨%f, H⟩
  ihave H' := (Entails.of_eq (show ((thr d L).loc cc0_scratch2 ↦{fullShare} f : sProp 𝕄) = iprop(bP d L 0 f ∗ bP d L 1 f ∗ bP d L 2 f) from by
    rw [← three (fun b => bP d L b f), ← pointsTo_biUnion Finset.univ (ℓ := (thr d L).loc cc0_scratch2) bSet bSet_disjoint, bSet_cover]; try rfl)) $$ H
  icases H' with ⟨H0, H1, H2⟩
  isplitl [H0]; · iexists f; iexact H0
  isplitl [H1]; · iexists f; iexact H1
  iexists f; iexact H2

/-- Three parts of a buffer, each at contents of its own, make it whole at some contents. -/
theorem join_three {ℓ : Loc nD τ sig} (A : Fin 3 → Finset (Idx ℓ))
    (hd : ∀ a ∈ (Finset.univ : Finset (Fin 3)), ∀ b ∈ (Finset.univ : Finset (Fin 3)), a ≠ b → Disjoint (A a) (A b))
    (hc : (Finset.univ : Finset (Fin 3)).biUnion A = Finset.univ) :
    iprop((∃ f, ℓ ↦[A 0]{fullShare} f) ∗ (∃ f, ℓ ↦[A 1]{fullShare} f) ∗ ∃ f, ℓ ↦[A 2]{fullShare} f) ⊢ (iprop(∃ f, ℓ ↦{fullShare} f) : sProp 𝕄) := by
  iintro ⟨⟨%f0, H0⟩, ⟨%f1, H1⟩, ⟨%f2, H2⟩⟩
  let fs : Fin 3 → Buf (Elt F) ℓ := fun b => if b = 0 then f0 else if b = 1 then f1 else f2
  ihave H' := ((Entails.of_eq (three (fun b => iprop(ℓ ↦[A b]{fullShare} fs b))).symm).trans
    (pointsTo_biUnion_join Finset.univ A fs f0 hd)) $$ [H0 H1 H2]
  · isplitl [H0]; · iexact H0
    isplitl [H1]; · iexact H1
    iexact H2
  icases H' with ⟨%g, -, Hg⟩
  rw [hc]
  iexists g; iexact Hg

theorem iBufs_join : iprop(iAny d L 0 ∗ iAny d L 1 ∗ iAny d L 2) ⊢ (iprop(∃ f, (thr d L).loc cc0_scratch1 ↦{fullShare} f) : sProp 𝕄) :=
  join_three (ℓ := (thr d L).loc cc0_scratch1) iSet iSet_disjoint iSet_cover
theorem bBufs_join : iprop(bAny d L 0 ∗ bAny d L 1 ∗ bAny d L 2) ⊢ (iprop(∃ f, (thr d L).loc cc0_scratch2 ↦{fullShare} f) : sProp 𝕄) :=
  join_three (ℓ := (thr d L).loc cc0_scratch2) bSet bSet_disjoint bSet_cover

end

/-! ## The shares -/

/-- The share of the table and of the index matrix each subcore is lent, and its three parts, one for each buffer. -/
def qCore (c : Fin 2) : PosShare TreeShare := dealOf fullShare Finset.univ c
def qTile (c : Fin 2) (s : Fin 16) : PosShare TreeShare := dealOf (qCore c) Finset.univ s
def qBuf (c : Fin 2) (s : Fin 16) (b : Fin 3) : PosShare TreeShare := dealOf (qTile c s) Finset.univ b

def coordsV (c : Fin (grid0.bound 0)) (s : Fin (grid0.bound 1)) : grid0.Coords :=
  fun | 0 => c | 1 => s | ⟨_ + 2, h⟩ => absurd h (Nat.not_lt.2 (Nat.le_add_left _ _))

/-- The rows of the result subcore `s` of SparseCore `c` writes. -/
abbrev rows (d : Dev nD) (c : Fin 2) (s : Fin 16) (g : S16x1024x1024.Idx → Elt F .f32) : sProp 𝕄 :=
  bigSep Finset.univ fun k : Fin 32 => oP d (row (coordsV c s) k.val) g

/-- What subcore `s` of SparseCore `c` holds of the arrays, its rows of the result at `g`. -/
def lent (d : Dev nD) (T : S16x3969.Idx → Elt F .f32) (X : S1024x1024.Idx → BitVec 32) (g : S16x1024x1024.Idx → Elt F .f32) (c : Fin 2) (s : Fin 16) : sProp 𝕄 :=
  iprop((tLoc d ↦{qTile c s} T) ∗ (xLoc d ↦{qTile c s} X) ∗ rows d c s g)

def tileSet (c : Fin 2) (s : Fin 16) : Finset S16x1024x1024.Idx := Finset.univ.biUnion fun k : Fin 32 => oSet (row (coordsV c s) k.val)
def coreSet (c : Fin 2) : Finset S16x1024x1024.Idx := Finset.univ.biUnion (tileSet c)

theorem row_coords (c : Fin 2) (s : Fin 16) (k : Fin 32) : (row (coordsV c s) k.val).val = 64 * s.val + 32 * c.val + k.val :=
  row_val (coordsV c s) k.isLt

theorem mem_tileSet {c : Fin 2} {s : Fin 16} {i : S16x1024x1024.Idx} :
    i ∈ tileSet c s ↔ 64 * s.val + 32 * c.val ≤ (i 1).val ∧ (i 1).val < 64 * s.val + 32 * c.val + 32 := by
  unfold tileSet
  rw [Finset.mem_biUnion]
  constructor
  · rintro ⟨k, -, hk⟩
    have e := congrArg Fin.val (mem_oSet.mp hk)
    have e' : (i 1).val = 64 * s.val + 32 * c.val + k.val := e.trans (row_coords c s k)
    have := k.isLt
    omega
  · rintro ⟨h1, h2⟩
    refine ⟨⟨(i 1).val - (64 * s.val + 32 * c.val), by omega⟩, Finset.mem_univ _, mem_oSet.mpr (Fin.ext ?_)⟩
    rw [row_coords]
    show (i 1).val = 64 * s.val + 32 * c.val + ((i 1).val - (64 * s.val + 32 * c.val))
    omega

theorem oSet_disjoint (c : Fin 2) (s : Fin 16) : ∀ a ∈ (Finset.univ : Finset (Fin 32)), ∀ b ∈ (Finset.univ : Finset (Fin 32)), a ≠ b →
    Disjoint (oSet (row (coordsV c s) a.val)) (oSet (row (coordsV c s) b.val)) :=
  fun a _ b _ h => Finset.disjoint_left.mpr fun i ha hb => by
    have e := congrArg Fin.val ((mem_oSet.mp ha).symm.trans (mem_oSet.mp hb))
    rw [row_coords, row_coords] at e
    exact h (Fin.ext (by omega))

theorem tileSet_disjoint (c : Fin 2) : ∀ a ∈ (Finset.univ : Finset (Fin 16)), ∀ b ∈ (Finset.univ : Finset (Fin 16)), a ≠ b →
    Disjoint (tileSet c a) (tileSet c b) :=
  fun a _ b _ h => Finset.disjoint_left.mpr fun i ha hb => by
    have ha := mem_tileSet.mp ha; have hb := mem_tileSet.mp hb
    exact h (Fin.ext (by omega))

theorem coreSet_disjoint : ∀ a ∈ (Finset.univ : Finset (Fin 2)), ∀ b ∈ (Finset.univ : Finset (Fin 2)), a ≠ b → Disjoint (coreSet a) (coreSet b) :=
  fun a _ b _ h => Finset.disjoint_left.mpr fun i ha hb => by
    obtain ⟨s, -, ha⟩ := Finset.mem_biUnion.mp ha
    obtain ⟨s', -, hb⟩ := Finset.mem_biUnion.mp hb
    have ha := mem_tileSet.mp ha; have hb := mem_tileSet.mp hb
    have := a.isLt; have := b.isLt
    exact h (Fin.ext (by omega))

theorem coreSet_cover : (Finset.univ : Finset (Fin 2)).biUnion coreSet = Finset.univ := by
  refine Finset.eq_univ_iff_forall.mpr fun i => ?_
  have hi : (i 1).val < 1024 := (i 1).isLt
  refine Finset.mem_biUnion.mpr ⟨⟨(i 1).val / 32 % 2, Nat.mod_lt _ (by decide)⟩, Finset.mem_univ _,
    Finset.mem_biUnion.mpr ⟨⟨(i 1).val / 64, by omega⟩, Finset.mem_univ _, mem_tileSet.mpr ?_⟩⟩
  show 64 * ((i 1).val / 64) + 32 * ((i 1).val / 32 % 2) ≤ (i 1).val ∧ (i 1).val < 64 * ((i 1).val / 64) + 32 * ((i 1).val / 32 % 2) + 32
  omega

theorem rows_all (d : Dev nD) (g : S16x1024x1024.Idx → Elt F .f32) :
    (oLoc d ↦{fullShare} g : sProp 𝕄) = bigSep Finset.univ fun c : Fin 2 => bigSep Finset.univ fun s : Fin 16 => rows d c s g := by
  have h1 : (oLoc d ↦{fullShare} g : sProp 𝕄) = bigSep Finset.univ fun c : Fin 2 => oLoc d ↦[coreSet c]{fullShare} g := by
    rw [← pointsTo_biUnion Finset.univ (ℓ := oLoc d) coreSet coreSet_disjoint, coreSet_cover]; try rfl
  refine h1.trans (bigSep_congr fun c _ => ?_)
  refine (pointsTo_biUnion Finset.univ (ℓ := oLoc d) (tileSet c) (tileSet_disjoint c)).trans (bigSep_congr fun s _ => ?_)
  exact pointsTo_biUnion Finset.univ (ℓ := oLoc d) (fun k : Fin 32 => oSet (row (coordsV c s) k.val)) (oSet_disjoint c s)

theorem tiles_all {ℓ : Loc nD τ sig} (f : Buf (Elt F) ℓ) :
    (ℓ ↦{fullShare} f : sProp 𝕄) = bigSep Finset.univ fun c : Fin 2 => bigSep Finset.univ fun s : Fin 16 => ℓ ↦{qTile c s} f :=
  (pointsTo_deal Finset.univ Finset.univ_nonempty fullShare).trans
    (bigSep_congr fun c _ => pointsTo_deal Finset.univ Finset.univ_nonempty (qCore c))

/-- The three arrays whole are what the thirty-two subcores hold of them. -/
theorem lent_all (d : Dev nD) (T : S16x3969.Idx → Elt F .f32) (X : S1024x1024.Idx → BitVec 32) (g : S16x1024x1024.Idx → Elt F .f32) :
    (bigSep Finset.univ fun c : Fin 2 => bigSep Finset.univ fun s : Fin 16 => lent d T X g c s)
      = (iprop((tLoc d ↦{fullShare} T) ∗ (xLoc d ↦{fullShare} X) ∗ oLoc d ↦{fullShare} g) : sProp 𝕄) := by
  rw [rows_all, tiles_all (ℓ := tLoc d), tiles_all (ℓ := xLoc d)]
  unfold lent
  simp only [bigSep_sep']

theorem bufs_deal {ℓ : Loc nD τ sig} (f : Buf (Elt F) ℓ) (c : Fin 2) (s : Fin 16) :
    (ℓ ↦{qTile c s} f : sProp 𝕄) = iprop((ℓ ↦{qBuf c s 0} f) ∗ (ℓ ↦{qBuf c s 1} f) ∗ ℓ ↦{qBuf c s 2} f) :=
  (pointsTo_deal Finset.univ Finset.univ_nonempty (qTile c s)).trans (three fun b => iprop(ℓ ↦{qBuf c s b} f))

/-! ## The handshakes' payloads -/

variable [FloatOps F]
variable (m : (ℓ : Loc nD τ sig) → Buf (Elt F) ℓ) (ρ : Dev nD → PrngReg)

/-- The arrays as the launch finds them. -/
abbrev T₀ (d : Dev nD) : S16x3969.Idx → Elt F .f32 := m (tLoc d)
abbrev X₀ (d : Dev nD) : S1024x1024.Idx → BitVec 32 := m (xLoc d)
abbrev g₀ (d : Dev nD) : S16x1024x1024.Idx → Elt F .f32 := m (oLoc d)
/-- What the proof asks of the launch memory: every index names a column of the table. -/
def PreOK : Prop := ∀ (d : Dev nD) (i : S1024x1024.Idx), (X₀ m d i).toNat < 3969

def P : (K (F := F)).Pay (nD := nD) (Val := Elt F) (Name := ℕ) (U := UU) where
  st := fun q d c => match q with | 0 => bigSep Finset.univ fun i : Fin 16 => lent d (T₀ m d) (X₀ m d) (g₀ m d) c i
  dn := fun q d c => match q with | 0 => bigSep Finset.univ fun i : Fin 16 => lent d (T₀ m d) (X₀ m d) (gath (T₀ m d) (X₀ m d)) c i
  go := fun q d c i => match q with | 0 => lent d (T₀ m d) (X₀ m d) (g₀ m d) c i
  td := fun q d c i => match q with | 0 => lent d (T₀ m d) (X₀ m d) (gath (T₀ m d) (X₀ m d)) c i
  x := fun _ _ => iprop(emp)

instance lent_storable (d : Dev nD) (T : S16x3969.Idx → Elt F .f32) (X : S1024x1024.Idx → BitVec 32) (g : S16x1024x1024.Idx → Elt F .f32) (c : Fin 2) (s : Fin 16) :
    BI.Storable (upEmb : UEmb _ 𝕄) (lent d T X g c s) := by unfold lent; infer_instance

instance P_storable : (P (F := F) m).IsStorable where
  st q d c := match q with | 0 => (inferInstance : BI.Storable (upEmb : UEmb _ 𝕄) (bigSep Finset.univ fun i : Fin 16 => lent d (T₀ m d) (X₀ m d) (g₀ m d) c i))
  dn q d c := match q with | 0 => (inferInstance : BI.Storable (upEmb : UEmb _ 𝕄) (bigSep Finset.univ fun i : Fin 16 => lent d (T₀ m d) (X₀ m d) (gath (T₀ m d) (X₀ m d)) c i))
  go q d c i := match q with | 0 => lent_storable d (T₀ m d) (X₀ m d) (g₀ m d) c i
  td q d c i := match q with | 0 => lent_storable d (T₀ m d) (X₀ m d) (gath (T₀ m d) (X₀ m d)) c i

/-! ## The subcore's task -/

section Tile
variable (d : Dev nD) (c : Fin 2) (s : Fin 16)

theorem tile_body (hF : (K (F := F)).Facts) (hpre : PreOK m) (O : CellTallies nD τ sig (HIx 1)) (W : Waits sig (HIx 1)) (hO : ∀ g, O g none = 0) :
    iprop(levAts (K (F := F)).L (K (F := F)).lev ∗ iprop(emp) ∗ lent d (T₀ m d) (X₀ m d) (g₀ m d) c s
        ∗ scopedBufs (thr d (coordsV c s)) ∗ scopedSems0 (thr d (coordsV c s)) ∗ owes (thr d (coordsV c s)) O W)
      ⊢ wp frame (wpE (defs₀ (F := F)) 𝒱₀ (thr d (coordsV c s)) none) Set.univ
          (cc0_gather_kernel (coordsV c s) tV (Memref.isWhole_whole _) xV (Memref.isWhole_whole _) oV (Memref.isWhole_whole _) sT (Memref.isWhole_whole _) sI (Memref.isWhole_whole _)
            sO (Memref.isWhole_whole _) cc0_scratch3 cc0_scratch4 cc0_scratch5 cc0_scratch6 cc0_scratch7 cc0_scratch8 cc0_scoped0)
          fun _ => iprop(lent d (T₀ m d) (X₀ m d) (gath (T₀ m d) (X₀ m d)) c s
            ∗ scopedBufs (thr d (coordsV c s)) ∗ scopedSems0 (thr d (coordsV c s))
            ∗ ∃ W', ⌜∀ p ∈ W', p ∈ W ∨ p.2 = none⌝ ∗ owes (thr d (coordsV c s)) O W') := by
  rw [(K (F := F)).scopedBufs_V hF d (cV (coordsV c s)) (jV (coordsV c s)), SparseCore.Cfg.scopedSems0_V (Val := Elt F) d (cV (coordsV c s)) (jV (coordsV c s)),
    ownSems0_eq d (coordsV c s), ownBufs_eq d (coordsV c s)]
  unfold lent
  iintro ⟨#Hlv, -, ⟨Ht, Hx, Hr⟩, ⟨HT, HI, HO, Hb⟩, ⟨⟨Hv, H3, H4, H5, H6, H7, H8⟩, Hs⟩, Hw⟩
  ihave HI' := (iBufs_split d (coordsV c s)) $$ HI
  icases HI' with ⟨HI0, HI1, HI2⟩
  ihave HO' := (bBufs_split d (coordsV c s)) $$ HO
  icases HO' with ⟨HO0, HO1, HO2⟩
  ihave Hx' := (Entails.of_eq (bufs_deal (ℓ := xLoc d) (X₀ m d) c s)) $$ Hx
  icases Hx' with ⟨Hx0, Hx1, Hx2⟩
  ihave Hmw := ((K (F := F)).mayWaits_none (thr := thr d (coordsV c s)) hO) $$ Hlv
  iapply (wp_wand_r Idealize.ShloMosaic.frame (wpE (defs₀ (F := F)) 𝒱₀ (thr d (coordsV c s)) none) Set.univ)
  isplitl [Ht Hr HT HI0 HI1 HI2 HO0 HO1 HO2 Hx0 Hx1 Hx2 Hv H3 H4 H5 H6 H7 H8 Hw Hmw]
  · iapply (tile_run d (coordsV c s) (T₀ m d) (X₀ m d) (g₀ m d) (qBuf c s 0) (qBuf c s 1) (qBuf c s 2) O W (hpre d) (qTile c s))
    isplitr [Hr]
    · isplitl [Ht]; · iexact Ht
      isplitl [HT]; · iexact HT
      isplitl [Hv]; · iexact Hv
      isplitl [H3 Hx0 HI0]
      · isplitl [H3]; · iexact H3
        isplitl [Hx0] <;> iassumption
      isplitl [H4 Hx1 HI1]
      · isplitl [H4]; · iexact H4
        isplitl [Hx1] <;> iassumption
      isplitl [H5 Hx2 HI2]
      · isplitl [H5]; · iexact H5
        isplitl [Hx2] <;> iassumption
      isplitl [H6 HO0]
      · isplitl [H6] <;> iassumption
      isplitl [H7 HO1]
      · isplitl [H7] <;> iassumption
      isplitl [H8 HO2]
      · isplitl [H8] <;> iassumption
      isplitl [Hmw]; · iexact Hmw
      iexists W; isplitr
      · ipureintro; exact fun p hp => Or.inl hp
      · iexact Hw
    · unfold todo; rw [fromR_zero]; iexact Hr
  iintro %_ ⟨⟨Ht, HT, Hv, ⟨H3, Hx0, HI0⟩, ⟨H4, Hx1, HI1⟩, ⟨H5, Hx2, HI2⟩, ⟨H6, HO0⟩, ⟨H7, HO1⟩, ⟨H8, HO2⟩, -, Hw⟩, Hr⟩
  isplitl [Ht Hx0 Hx1 Hx2 Hr]
  · isplitl [Ht]; · iexact Ht
    isplitl [Hx0 Hx1 Hx2]
    · iapply (Entails.of_eq (bufs_deal (ℓ := xLoc d) (X₀ m d) c s).symm)
      isplitl [Hx0]; · iexact Hx0
      isplitl [Hx1] <;> iassumption
    · unfold done; rw [belowR_all]; iexact Hr
  isplitl [HT HI0 HI1 HI2 HO0 HO1 HO2 Hb]
  · isplitl [HT]; · iexact HT
    isplitl [HI0 HI1 HI2]
    · iapply (iBufs_join d (coordsV c s))
      isplitl [HI0]; · iexact HI0
      isplitl [HI1] <;> iassumption
    isplitl [HO0 HO1 HO2]
    · iapply (bBufs_join d (coordsV c s))
      isplitl [HO0]; · iexact HO0
      isplitl [HO1] <;> iassumption
    iexact Hb
  isplitr [Hw]
  · isplitr [Hs]
    · isplitl [Hv]; · iexact Hv
      isplitl [H3]; · iexact H3
      isplitl [H4]; · iexact H4
      isplitl [H5]; · iexact H5
      isplitl [H6]; · iexact H6
      isplitl [H7] <;> iassumption
    · iexact Hs
  iexact Hw

end Tile

theorem defs₀_vector (c : Fin τ.nSC) (s : Fin τ.nSub) :
    defs₀ (F := F) (.scVector c s) 0 ()
      = SparseCore.onTile hcore0 hsub0 (fun c s => cc0_gather_kernel (coordsV c s) tV (Memref.isWhole_whole _) xV (Memref.isWhole_whole _) oV (Memref.isWhole_whole _)
          sT (Memref.isWhole_whole _) sI (Memref.isWhole_whole _) sO (Memref.isWhole_whole _)
          cc0_scratch3 cc0_scratch4 cc0_scratch5 cc0_scratch6 cc0_scratch7 cc0_scratch8 cc0_scoped0) ⟨⟩ c s := rfl

theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Each subcore's task, as the launch asks for it. -/
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d c i hF hpre O W hO).trans (wp_mono frame _ _ fun _ => obl_post)

theorem vecSplit : (K (F := F)).VecSplit' (P m) 0 := by
  intro d c
  show (bigSep Finset.univ fun i : Fin 16 => lent d (T₀ m d) (X₀ m d) (g₀ m d) c i)
    ⊢ |={Set.univ}=> iprop((bigSep Finset.univ fun i : Fin 16 => lent d (T₀ m d) (X₀ m d) (g₀ m d) c i)
      ∗ ((bigSep Finset.univ fun i : Fin 16 => lent d (T₀ m d) (X₀ m d) (gath (T₀ m d) (X₀ m d)) c i)
        -∗ bigSep Finset.univ fun i : Fin 16 => lent d (T₀ m d) (X₀ m d) (gath (T₀ m d) (X₀ m d)) c i))
  iintro H; imodintro
  isplitl [H]; · iexact H
  iintro H; iexact H

/-! ## The launch's ghost state -/

def u₀ : UU := (initOf (K (F := F)).hsCells (K (F := F)).hsToks, 1)

theorem bigSep_emp' {I : Type} (s : Finset I) : (bigSep s fun _ => iprop(emp)) = (iprop(emp) : sProp 𝕄) := bigSep_emp_const s

theorem ownU_pair (a : UH) (b : Counters) : (ownU (a, b) : sProp 𝕄) ⊢ iprop(BI.own (EH a) ∗ BI.own (EC b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op b)))

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The program on the TensorCore -/

theorem unscopedBufs_eq (d : Dev nD) (W : (b : Ref sig .tc) → Buf (Elt F) ((d.tc : Thread nD τ).loc b)) :
    (unscopedBufs d W : sProp 𝕄) = iprop((tLoc d ↦{fullShare} W main_arg0) ∗ (xLoc d ↦{fullShare} W main_arg1) ∗ oLoc d ↦{fullShare} W main_v0) := by
  unfold unscopedBufs
  rw [show (Finset.univ.filter fun b : Ref sig .tc => ¬ b.isScoped) = {main_arg0, main_arg1, main_v0} by decide,
    SparseCore.bigSep_insert' (by decide), SparseCore.bigSep_insert' (by decide), bigSep_singleton]

theorem st_all (d : Dev nD) : (bigSep Finset.univ fun c : Fin ((K (F := F)).nCore 0) => (P m).st 0 d c)
    = iprop((tLoc d ↦{fullShare} T₀ m d) ∗ (xLoc d ↦{fullShare} X₀ m d) ∗ oLoc d ↦{fullShare} g₀ m d) := lent_all d _ _ _
theorem dn_all (d : Dev nD) : (bigSep Finset.univ fun c : Fin ((K (F := F)).nCore 0) => (P m).dn 0 d c)
    = iprop((tLoc d ↦{fullShare} T₀ m d) ∗ (xLoc d ↦{fullShare} X₀ m d) ∗ oLoc d ↦{fullShare} gath (T₀ m d) (X₀ m d)) := lent_all d _ _ _

abbrev FIN (d : Dev nD) : sProp 𝕄 := iprop((tLoc d ↦{fullShare} T₀ m d) ∗ (xLoc d ↦{fullShare} X₀ m d) ∗ oLoc d ↦{fullShare} gath (T₀ m d) (X₀ m d))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Ht, Hx, Ho⟩, Hts, -⟩, -⟩
  iapply ((K (F := F)).wp_run (D (F := F)) 𝒱 (EH := EH) (P := P m) κ d 0) $$ [Hst Ht Hx Ho Hb Hts]
  isplitr; · iexact Hctx
  isplitl [Hst]; · iexact Hst
  isplitl [Ht Hx Ho]
  · rw [st_all]
    isplitl [Ht]; · iexact Ht
    isplitl [Hx]; · iexact Hx
    iexact Ho
  iintro ⟨Hst, Hdn⟩
  ihave Hdn' := (Entails.of_eq (dn_all m d)) $$ Hdn
  imodintro
  isplitl [Hst]; · iexact Hst
  isplitr [Hb Hts]; · iexact Hdn'
  isplitl [Hb] <;> iassumption

def fq (d : Dev nD) (s' : Phys nD τ sig (Elt F)) : Prop :=
  s'.mem.mem (oLoc d) = gath (T₀ m d) (X₀ m d) ∧ s'.mem.mem (tLoc d) = m (tLoc d) ∧ s'.mem.mem (xLoc d) = m (xLoc d)

theorem hfin (d : Dev nD) (s' : Phys nD τ sig (Elt F)) : iprop(FIN m d ∗ SI s') ⊢ (⌜fq m d s'⌝ : sProp 𝕄) := by
  iintro ⟨⟨Ht, Hx, Ho⟩, HSI⟩
  ihave H := (persistent_entails_right (SI_pointsTo_agree (st := s') (ℓ := tLoc d) (I := Finset.univ) (q := fullShare) (f := T₀ m d))) $$ [HSI Ht]
  · isplitl [HSI] <;> iassumption
  icases H with ⟨%h1, HSI, -⟩
  ihave H := (persistent_entails_right (SI_pointsTo_agree (st := s') (ℓ := xLoc d) (I := Finset.univ) (q := fullShare) (f := X₀ m d))) $$ [HSI Hx]
  · isplitl [HSI] <;> iassumption
  icases H with ⟨%h2, HSI, -⟩
  ihave H := (SI_pointsTo_agree (st := s') (ℓ := oLoc d) (I := Finset.univ) (q := fullShare) (f := gath (T₀ m d) (X₀ m d))) $$ [HSI Ho]
  · isplitl [HSI] <;> iassumption
  icases H with %h3
  ipureintro
  exact ⟨funext fun i => h3 i (Finset.mem_univ i), funext fun i => h1 i (Finset.mem_univ i), funext fun i => h2 i (Finset.mem_univ i)⟩

/-! ## The run -/

def QC : PUnit × MemSt nD τ sig (Elt F) → Prop := fun r =>
  (∀ d : Dev nD, r.2.mem (oLoc d) = gath (T₀ m d) (X₀ m d) ∧ r.2.mem (tLoc d) = m (tLoc d) ∧ r.2.mem (xLoc d) = m (xLoc d)) ∧ r.2.sem = fun _ => 0

/-- From any memory whose indices name columns of the table, the program ends with the gathered result, its arguments
    unchanged and every counter back at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Bias
-- ==== Proof.Reference.lean ====
/-
  The reference: what `jnp.take` prints, read at an index, for indices that name columns of the table.
-/
module

public import proofs.«01_k».proof.Proof.Launch
public import proofs.«01_k».proof.Proof.Gen.ReferenceIdeal
public import proofs.«01_k».proof.Proof.Gen.ReferenceIdeal.Run
public import Idealize.ShloMosaic.Lib.ReduceAll

@[expose] public section

noncomputable section

namespace Cert.Proof.Bias.Ref

open Cert.ReferenceIdeal Cert.ReferenceIdeal.Gen
open Idealize.ShloMosaic Idealize.ShloMosaic.ValueIdx

variable {F : FTy → Type} [FloatOps F]

/-! ## Words below 3969 -/

theorem ofBool_one {p : Bool} : BitVec.ofBool p = 1#1 ↔ p = true := by cases p <;> decide
theorem andi_one {a b : BitVec 1} (ha : a = 1#1) (hb : b = 1#1) : IntOp.andi a b = 1#1 := by subst ha hb; rfl

theorem not_neg {w : BitVec 32} (h : w.toNat < 3969) : IntOp.cmpi .slt w 0#32 = 0#1 := by
  simp only [IntOp.cmpi, BitVec.slt_eq_decide, BitVec.toInt_eq_toNat_cond, BitVec.toNat_ofNat]
  rw [decide_eq_false (by omega)]; rfl
theorem ge_zero {w : BitVec 32} (h : w.toNat < 3969) : IntOp.cmpi .sge w 0#32 = 1#1 := by
  simp only [IntOp.cmpi, BitVec.sle_eq_decide, BitVec.toInt_eq_toNat_cond, BitVec.toNat_ofNat]
  rw [decide_eq_true (by omega)]; rfl
theorem le_last {w : BitVec 32} (h : w.toNat < 3969) : IntOp.cmpi .sle w 3968#32 = 1#1 := by
  simp only [IntOp.cmpi, BitVec.sle_eq_decide, BitVec.toInt_eq_toNat_cond, BitVec.toNat_ofNat]
  rw [decide_eq_true (by omega)]; rfl
theorem toInt_word {w : BitVec 32} (h : w.toNat < 3969) : w.toInt.toNat = w.toNat := by
  rw [BitVec.toInt_eq_toNat_cond, if_pos (by omega)]; rfl

/-! ## The reference's terms -/

section
variable (T : FVec F S16x3969 .f32) (X : IVec S1024x1024 32)

/-- The indices in one row. -/
def flat : IVec S1048576 32 := shapeCast _ X shapeCasts_S1024x1024_S1048576
/-- A negative index counts from the end. -/
def wrapped : IVec S1048576 32 :=
  select (cmpi .slt (flat X) (broadcastInDim S1048576 ![] bcast_S_S1048576 (constantI S_ 32 0#32)))
    (addi (flat X) (broadcastInDim S1048576 ![] bcast_S_S1048576 (constantI S_ 32 3969#32))) (flat X)
def starts : IVec S1048576x1 32 := broadcastInDim S1048576x1 ![0] bcast_S1048576_S1048576x1_0 (wrapped X)
/-- Which indices are in range. -/
def inRange : IVec S1048576x1 1 :=
  andi (cmpi .sge (starts X) (broadcastInDim S1048576x1 ![] bcast_S_S1048576x1 (constantI S_ 32 0#32)))
    (cmpi .sle (starts X) (broadcastInDim S1048576x1 ![0, 1] bcast_S1x1_S1048576x1_0_1 (broadcastInDim S1x1 ![1] bcast_S1_S1x1_1 (constantI S1 32 3968#32))))
def result : FVec F S16x1024x1024 .f32 :=
  shapeCast _ (select (broadcastInDim S16x1048576 ![1] bcast_S1048576_S16x1048576_1 (Host.reduce IntOp.andi (inRange X) (constantI S_ 1 1#1) reducesTo_S1048576x1_S1048576_d1 h_S_))
    (Host.gather gather_S16x3969_S1048576x1_S16x1048576_0_1_n_n_1_1_161 T (starts X))
    (broadcastInDim S16x1048576 ![] bcast_S_S16x1048576 (constant S_ .f32 0x7FC00000#32))) shapeCasts_S16x1048576_S16x1024x1024

variable (hX : ∀ i, (X i).toNat < 3969)

theorem flat_at (r x : Fin 1024) : flat X (ix1 (⟨1024 * r.val + x.val, by omega⟩ : Fin 1048576)) = X (ix2 r x) :=
  shapeCast_apply X _ _ _ (by
    rw [Shape.rowMajor_val_two, Shape.rowMajor_val_one]; show r.val * 1024 + x.val = 1024 * r.val + x.val; omega)

include hX in
theorem flat_lt (p : S1048576.Idx) : (flat X p).toNat < 3969 := hX _

include hX in
theorem wrapped_eq : wrapped X = flat X := by
  funext p
  show Scalar.select (IntOp.cmpi .slt (flat X p) 0#32) (IntOp.addi (flat X p) 3969#32) (flat X p) = flat X p
  rw [not_neg (flat_lt X hX p)]; rfl

theorem starts_at (p : Fin 1048576) : starts X (ix2 p (0 : Fin 1)) = wrapped X (ix1 p) :=
  broadcastInDim_apply _ _ _ _ _ fun a => by
    match a with
    | ⟨0, _⟩ => rfl

include hX in
theorem inRange_at (i : S1048576x1.Idx) : inRange X i = 1#1 := by
  have h : (starts X i).toNat < 3969 := by
    unfold starts; rw [wrapped_eq X hX]; exact flat_lt X hX _
  exact andi_one (ge_zero h) (le_last h)

/-- The gather's dimension numbers. -/
abbrev gD : GatherDims S16x3969 S1048576x1 S16x1048576 := gather_S16x3969_S1048576x1_S16x1048576_0_1_n_n_1_1_161

theorem gather_at (idx : IVec S1048576x1 32) (y : Fin 16) (p : Fin 1048576) :
    Host.gather gather_S16x3969_S1048576x1_S16x1048576_0_1_n_n_1_1_161 T idx (ix2 y p)
      = T (ix2 y (⟨min (idx (ix2 p (0 : Fin 1))).toInt.toNat 3968, by omega⟩ : Fin 3969)) := by
  unfold Host.gather
  refine congrArg T (funext fun a => Fin.ext ?_)
  match a with
  | ⟨0, _⟩ =>
    show gD.start (ix2 y p) idx 0 + gD.batchCoord (ix2 y p) 0 + gD.offCoord (ix2 y p) 0 = y.val
    have h1 : gD.start (ix2 y p) idx 0 = 0 := by
      unfold GatherDims.start; rw [dif_neg (show (0 : Fin 2) ∉ gD.startIndexMap from by show (0 : Fin 2) ∉ [(1 : Fin 2)]; decide)]
    have h2 : gD.batchCoord (ix2 y p) 0 = 0 := gD.batchCoord_eq_zero _ _ (show (0 : Fin 2) ∉ ([] : List (Fin 2)) from List.not_mem_nil)
    have h3 : gD.offCoord (ix2 y p) 0 = y.val := by
      unfold GatherDims.offCoord
      rw [dif_pos ((gD.mem_sKept 0).2 ⟨show (0 : Fin 2) ∉ [(1 : Fin 2)] by decide, show (0 : Fin 2) ∉ ([] : List (Fin 2)) from List.not_mem_nil⟩)]
      rfl
    rw [h1, h2, h3]; omega
  | ⟨1, _⟩ =>
    show gD.start (ix2 y p) idx 1 + gD.batchCoord (ix2 y p) 1 + gD.offCoord (ix2 y p) 1 = min (idx (ix2 p (0 : Fin 1))).toInt.toNat 3968
    have h2 : gD.batchCoord (ix2 y p) 1 = 0 := gD.batchCoord_eq_zero _ _ (show (1 : Fin 2) ∉ ([] : List (Fin 2)) from List.not_mem_nil)
    have h3 : gD.offCoord (ix2 y p) 1 = 0 :=
      gD.offCoord_eq_zero _ _ fun h => ((gD.mem_sKept 1).1 h).1 (show (1 : Fin 2) ∈ [(1 : Fin 2)] by decide)
    have h1 : gD.start (ix2 y p) idx 1 = min (idx (ix2 p (0 : Fin 1))).toInt.toNat 3968 := by
      unfold GatherDims.start
      rw [dif_pos (show (1 : Fin 2) ∈ gD.startIndexMap from by show (1 : Fin 2) ∈ [(1 : Fin 2)]; decide)]
      have hs : gD.siIdx (ix2 y p) ⟨gD.startIndexMap.idxOf (1 : Fin 2), List.idxOf_lt_length_iff.2 (by show (1 : Fin 2) ∈ [(1 : Fin 2)]; decide)⟩ = ix2 p (0 : Fin 1) := by
        funext b
        apply Fin.ext
        match b with
        | ⟨0, _⟩ => rfl
        | ⟨1, _⟩ => rfl
      rw [hs]; rfl
    rw [h1, h2, h3]; omega

include hX in
theorem result_eq : result T X = gath (F := F) T X := by
  funext i
  obtain ⟨y, r, x, rfl⟩ : ∃ y r x, i = ix3 y r x := ⟨i 0, i 1, i 2, eq_ix3 i⟩
  have hp : 1024 * r.val + x.val < 1048576 := by omega
  show shapeCast S16x1024x1024 _ shapeCasts_S16x1048576_S16x1024x1024 (ix3 y r x) = look T y (X (ix2 r x))
  rw [shapeCast_apply _ _ _ (ix2 y (⟨1024 * r.val + x.val, hp⟩ : Fin 1048576)) (by
    rw [Shape.rowMajor_val_two, Shape.rowMajor_val_three]
    show y.val * 1048576 + (1024 * r.val + x.val) = (y.val * 1024 + r.val) * 1024 + x.val; omega)]
  rw [select_apply]
  have hb : broadcastInDim S16x1048576 ![1] bcast_S1048576_S16x1048576_1
      (Host.reduce IntOp.andi (inRange X) (constantI S_ 1 1#1) reducesTo_S1048576x1_S1048576_d1 h_S_) (ix2 y (⟨1024 * r.val + x.val, hp⟩ : Fin 1048576)) = 1#1 :=
    Host.reduce_andi_one (inRange X) (constantI S_ 1 1#1) reducesTo_S1048576x1_S1048576_d1 h_S_ _ rfl (inRange_at X hX)
  have hs : starts X (ix2 (⟨1024 * r.val + x.val, hp⟩ : Fin 1048576) (0 : Fin 1)) = X (ix2 r x) := by
    rw [starts_at, wrapped_eq X hX]; exact flat_at X r x
  rw [hb, gather_at]
  have hw := hX (ix2 r x)
  show T _ = T _
  refine congrArg (fun z : Fin 3969 => T (ix2 y z)) (Fin.ext ?_)
  show min (starts X (ix2 (⟨1024 * r.val + x.val, hp⟩ : Fin 1048576) (0 : Fin 1))).toInt.toNat 3968 = (X (ix2 r x)).toNat % 3969
  rw [hs, toInt_word hw, Nat.mod_eq_of_lt hw]; omega

end

end Cert.Proof.Bias.Ref
-- ==== Proof.Claims.lean ====
/-
  The claims: the two programs' frames from the one run, the reference's frame, and the equality of their results.
-/
module

public import proofs.«01_k».proof.Proof.Reference
public import proofs.«01_k».proof.Proof.Gen.Kernel
public import proofs.«01_k».proof.Proof.Gen.Pre_in_range

@[expose] public section

noncomputable section

namespace Cert.Proof.Bias

open Idealize.ShloMosaic Idealize.ShloMosaic.ValueIdx Idealize.SL.Sem
open Cert.Kernel.Gen Cert.KernelIdeal.Gen Cert.ReferenceIdeal.Gen Cert.Pre_in_range.Gen

/-- The precondition's one word, all indices in range, gives each index in range. -/
theorem lt_of_pre {F : FTy → Type} [FloatOps F] (T : FVec F Cert.KernelIdeal.S16x3969 .f32) (X : IVec Cert.KernelIdeal.S1024x1024 32)
    (h : Cert.Pre_in_range.fn (F := F) T X = fun _ => 1#1) (i : Cert.KernelIdeal.S1024x1024.Idx) : (X i).toNat < 3969 := by
  have e := congrFun h ix0
  dsimp only [Cert.Pre_in_range.fn] at e
  haveI : Subsingleton (Cert.Pre_in_range.S_).Idx := ⟨fun a b => funext fun k => k.elim0⟩
  have e' : IntOp.andi (IntOp.cmpi .sge (X i) 0#32) (IntOp.cmpi .slt (X i) 3969#32) = 1#1 := Host.reduce_andi_all _ _ _ _ _ e i
  have andi_ofBool (p q : Bool) : IntOp.andi (BitVec.ofBool p) (BitVec.ofBool q) = BitVec.ofBool (p && q) := by
    cases p <;> cases q <;> decide
  simp only [IntOp.cmpi, andi_ofBool, Ref.ofBool_one, Bool.and_eq_true, BitVec.sle_eq_decide, BitVec.slt_eq_decide,
    decide_eq_true_eq, BitVec.toInt_eq_toNat_cond, BitVec.toNat_ofNat, Nat.reducePow, Nat.reduceMod] at e'
  omega

theorem frame_kernel : Cert.quiescent_Kernel := fun m ρ hpre =>
  (θ_run Cert.KernelIdeal.defs _ _).mono (fun _ h => ⟨fun c => (h.1 c).2, h.2⟩)
    (run_main (F := Bits) m ρ fun d => lt_of_pre _ _ (hpre d))

theorem frame_kernelIdeal : Cert.quiescent_KernelIdeal := fun m ρ hpre =>
  (θ_run Cert.KernelIdeal.defs _ _).mono (fun _ h => ⟨fun c => (h.1 c).2, h.2⟩)
    (run_main (F := Ideal) m ρ fun d => lt_of_pre _ _ (hpre d))

theorem frame_reference : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

theorem frame_reference_in_range : Cert.quiescent_ReferenceIdeal_pre_in_range := fun m ρ _ => frame_reference m ρ trivial

/-- The kernel's result and the reference's are the same gather of the table. -/
theorem same_result : Cert.algebraic_KernelIdeal_ReferenceIdeal := by
  intro m ρ m' ρ' hpre hargs
  have hX := fun d => lt_of_pre _ _ (hpre d)
  refine ⟨fun d => gath (T₀ (F := Ideal) m d) (X₀ (F := Ideal) m d), ?_, ?_⟩
  · exact (θ_run Cert.KernelIdeal.defs _ _).mono (fun _ h => h.1) (run_main (F := Ideal) m ρ hX)
  · refine (θ_run Cert.ReferenceIdeal.defs _ _).mono (fun r h d => ⟨(h d).1.trans ?_, (h d).2⟩) (Cert.ReferenceIdeal.Value.run (F := Ideal) m' ρ')
    refine Eq.trans ?_ (Ref.result_eq (F := Ideal) (m (tLoc d)) (m (xLoc d)) (hX d))
    rw [(hargs d).1, (hargs d).2]
    rfl

end Cert.Proof.Bias
-- ==== Proof.lean ====
/- The proof of every claim of `proofs.«01_k».proof.Defs`: the frames of the kernel and of its idealization, which are
   two instances of one run, the frames of the reference, and the equality of the kernel's result and the reference's. -/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.Claims
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts, Cert.Pre_in_range.Gen.facts,
    Bias.frame_kernel, Bias.frame_kernelIdeal, Bias.frame_reference, Bias.frame_reference_in_range, trivial, Bias.same_result⟩

end Cert.Proof

end
